-- ==== Defs.lean ====
def Pre_Gather [hPre_rows_in_range : Cert.Pre_rows_in_range.Facts] (m : (ℓ : Loc Cert.Gather.nD Cert.Gather.τ Cert.Gather.sig) → Buf (Elt Bits) ℓ) : Prop :=
  ∀ c : Dev Cert.Gather.nD,
    (Cert.Pre_rows_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_in_range : Cert.Pre_rows_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal [hPre_rows_in_range : Cert.Pre_rows_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_rows_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Gather [hGather : Cert.Gather.Facts] [hPre_rows_in_range : Cert.Pre_rows_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_in_range : Cert.Pre_rows_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] [hPre_rows_in_range : Cert.Pre_rows_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] [hPre_rows_in_range : Cert.Pre_rows_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v1)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v1) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v7) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hGather : Cert.Gather.Facts) (hGatherIdeal : Cert.GatherIdeal.Facts) (hGatherReferenceIdeal : Cert.GatherReferenceIdeal.Facts) (hKernel : Cert.Kernel.Facts) (hKernelIdeal : Cert.KernelIdeal.Facts) (hReferenceIdeal : Cert.ReferenceIdeal.Facts) (hPre_rows_in_range : Cert.Pre_rows_in_range.Facts),
    quiescent_Gather (hGather := hGather) (hPre_rows_in_range := hPre_rows_in_range)
    ∧ quiescent_GatherIdeal (hGatherIdeal := hGatherIdeal) (hPre_rows_in_range := hPre_rows_in_range)
    ∧ quiescent_GatherReferenceIdeal (hGatherReferenceIdeal := hGatherReferenceIdeal) (hPre_rows_in_range := hPre_rows_in_range)
    ∧ quiescent_Kernel (hKernel := hKernel)
    ∧ quiescent_KernelIdeal (hKernelIdeal := hKernelIdeal)
    ∧ quiescent_ReferenceIdeal (hReferenceIdeal := hReferenceIdeal)
    ∧ preserves_Gather_GatherIdeal
    ∧ algebraic_GatherIdeal_GatherReferenceIdeal (hGatherIdeal := hGatherIdeal) (hGatherReferenceIdeal := hGatherReferenceIdeal) (hPre_rows_in_range := hPre_rows_in_range)
    ∧ preserves_Kernel_KernelIdeal
    ∧ algebraic_KernelIdeal_ReferenceIdeal (hKernelIdeal := hKernelIdeal) (hReferenceIdeal := hReferenceIdeal)
-- ==== Pre_rows_in_range.lean ====
abbrev S8x32x100000 : Shape := ⟨3, ![8, 32, 100000]⟩
abbrev S32x128 : Shape := ⟨2, ![32, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S8x32x100000 .f32) (main_arg1 : IVec S32x128 32) : IVec S32x128 1 :=
  let main_c : IVec S_ 32 := constantI S_ 32 0#32
  let main_v0 : IVec S32x128 32 := broadcastInDim S32x128 ![] bcast_S_S32x128 main_c
  let main_v1 : IVec S32x128 1 := cmpi .sge main_arg1 main_v0
  let main_c_0 : IVec S_ 32 := constantI S_ 32 200000#32
  let main_v2 : IVec S32x128 32 := broadcastInDim S32x128 ![] bcast_S_S32x128 main_c_0
  let main_v3 : IVec S32x128 1 := cmpi .slt main_arg1 main_v2
  let main_v4 : IVec S32x128 1 := andi main_v1 main_v3
  main_v4
-- ==== Gather.lean ====
abbrev S8x32x100000 : Shape := ⟨3, ![8, 32, 100000]⟩
abbrev S32x128 : Shape := ⟨2, ![32, 128]⟩
abbrev S200000x128 : Shape := ⟨2, ![200000, 128]⟩
abbrev S32x128x128 : Shape := ⟨3, ![32, 128, 128]⟩
abbrev S128 : Shape := ⟨1, ![128]⟩
abbrev S128x128 : Shape := ⟨2, ![128, 128]⟩
abbrev S_ : Shape := ⟨0, ![]⟩
abbrev S1x128 : Shape := ⟨2, ![1, 128]⟩
abbrev S1x128x128 : Shape := ⟨3, ![1, 128, 128]⟩

abbrev nBuf : Table → Nat
  | .hbm => 4
  | .local .scVector .vmem => 2
  | _ => 0

abbrev bufTy : (tb : Table) → Fin (nBuf tb) → BufTy
  | .hbm, ⟨0, _⟩ => ⟨S8x32x100000, .f32⟩
  | .hbm, ⟨1, _⟩ => ⟨S32x128, .i32⟩
  | .hbm, ⟨2, _⟩ => ⟨S200000x128, .f32⟩
  | .hbm, ⟨3, _⟩ => ⟨S32x128x128, .f32⟩
  | .local .scVector .vmem, ⟨0, _⟩ => ⟨S128, .i32⟩
  | .local .scVector .vmem, ⟨1, _⟩ => ⟨S128x128, .f32⟩
  | _, _ => ⟨S8x32x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r1 : BitVec 32 := 0#32
  let c0_i32_4_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S8x32x100000 : Shape := ⟨3, ![8, 32, 100000]⟩
abbrev S32x128 : Shape := ⟨2, ![32, 128]⟩
abbrev S200000x128 : Shape := ⟨2, ![200000, 128]⟩
abbrev S_ : Shape := ⟨0, ![]⟩
abbrev S32x128x1 : Shape := ⟨3, ![32, 128, 1]⟩
abbrev S32x128x128 : Shape := ⟨3, ![32, 128, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x32x100000, .f32⟩
  | .hbm, ⟨1, _⟩ => ⟨S32x128, .i32⟩
  | .hbm, ⟨2, _⟩ => ⟨S200000x128, .f32⟩
  | .hbm, ⟨3, _⟩ => ⟨S_, .i32⟩
  | .hbm, ⟨4, _⟩ => ⟨S32x128, .i32⟩
  | .hbm, ⟨5, _⟩ => ⟨S32x128, .i1⟩
  | .hbm, ⟨6, _⟩ => ⟨S_, .i32⟩
  | .hbm, ⟨7, _⟩ => ⟨S32x128, .i32⟩
  | .hbm, ⟨8, _⟩ => ⟨S32x128, .i32⟩
  | .hbm, ⟨9, _⟩ => ⟨S32x128, .i32⟩
  | .hbm, ⟨10, _⟩ => ⟨S32x128x1, .i32⟩
  | .hbm, ⟨11, _⟩ => ⟨S32x128x128, .f32⟩
  | _, _ => ⟨S8x32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel.lean ====
abbrev S8x32x1024 : Shape := ⟨3, ![8, 32, 1024]⟩
abbrev S8x32x100000 : Shape := ⟨3, ![8, 32, 100000]⟩
abbrev S32x128 : Shape := ⟨2, ![32, 128]⟩
abbrev S32x1 : Shape := ⟨2, ![32, 1]⟩
abbrev S_ : Shape := ⟨0, ![]⟩
abbrev S32x128x128 : Shape := ⟨3, ![32, 128, 128]⟩
abbrev S32x128x1 : Shape := ⟨3, ![32, 128, 1]⟩
abbrev S32 : Shape := ⟨1, ![32]⟩
abbrev S32x800000 : Shape := ⟨2, ![32, 800000]⟩
abbrev S32x16000 : Shape := ⟨2, ![32, 16000]⟩
abbrev S8x4 : Shape := ⟨2, ![8, 4]⟩

abbrev nBuf : Space → Nat
  | .hbm => 22
  | .vmem => 11
  | .smem => 0
  | _ => 0

abbrev bufTy : (tb : Table) → Fin (tcTables nBuf tb) → BufTy
  | .hbm, ⟨0, _⟩ => ⟨S8x32x1024, .f32⟩
  | .hbm, ⟨1, _⟩ => ⟨S8x32x100000, .f32⟩
  | .hbm, ⟨2, _⟩ => ⟨S32x128, .i32⟩
  | .hbm, ⟨3, _⟩ => ⟨S32x1, .f32⟩
  | .hbm, ⟨4, _⟩ => ⟨S_, .f32⟩
  | .hbm, ⟨5, _⟩ => ⟨S32x128x128, .f32⟩
  | .hbm, ⟨6, _⟩ => ⟨S32x1, .i32⟩
  | .hbm, ⟨7, _⟩ => ⟨S32x1, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .i1⟩
  | .hbm, ⟨14, _⟩ => ⟨S_, .i1⟩
  | .hbm, ⟨15, _⟩ => ⟨S_, .i32⟩
  | .hbm, ⟨16, _⟩ => ⟨S32, .i32⟩
  | .hbm, ⟨17, _⟩ => ⟨S32x800000, .f32⟩
  | .hbm, ⟨18, _⟩ => ⟨S32x1, .f32⟩
  | .hbm, ⟨19, _⟩ => ⟨S32x1, .i32⟩
  | .hbm, ⟨20, _⟩ => ⟨S32, .i32⟩
  | .hbm, ⟨21, _⟩ => ⟨S8x4, .i32⟩
  | .local _ .vmem, ⟨0, _⟩ => ⟨S32x128x128, .f32⟩
  | .local _ .vmem, ⟨1, _⟩ => ⟨S32x128, .i32⟩
  | .local _ .vmem, ⟨2, _⟩ => ⟨S32x1, .f32⟩
  | .local _ .vmem, ⟨3, _⟩ => ⟨S32x1, .i32⟩
  | .local _ .vmem, ⟨4, _⟩ => ⟨S32x1, .i32⟩
  | .local _ .vmem, ⟨5, _⟩ => ⟨S32x16000, .f32⟩
  | .local _ .vmem, ⟨6, _⟩ => ⟨S32x16000, .f32⟩
  | .local _ .vmem, ⟨7, _⟩ => ⟨S32x1, .f32⟩
  | .local _ .vmem, ⟨8, _⟩ => ⟨S32x1, .i32⟩
  | .local _ .vmem, ⟨9, _⟩ => ⟨S32x1, .f32⟩
  | .local _ .vmem, ⟨10, _⟩ => ⟨S32x1, .i32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_case0b0_v10 : Ref sig .tc := ⟨.hbm, 17, rfl⟩
abbrev main_case0b0_v11_0 : Ref sig .tc := ⟨.hbm, 18, rfl⟩
abbrev main_case0b0_v11_1 : Ref sig .tc := ⟨.hbm, 19, rfl⟩
abbrev main_case0b0_v12 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := .none

abbrev stage0_0 : Fin 1 → Memref sig .tc .vmem S32x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![50], ![false]⟩

def k1_cond3 (i : grid1.Coords) : BitVec 1 :=
  let arg0 : BitVec 32 := BitVec.ofNat 32 (i 0).val
  let c49_i32 : BitVec 32 := 49#32
  let v227 : BitVec 1 := Scalar.cmpi .eq arg0 c49_i32
  let v228 : BitVec 32 := Scalar.extui v227
  let c0_i32_54 : BitVec 32 := 0#32
  let v229 : BitVec 1 := Scalar.cmpi .ne v228 c0_i32_54
  v229

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S8x32x1024 : Shape := ⟨3, ![8, 32, 1024]⟩
abbrev S8x32x100000 : Shape := ⟨3, ![8, 32, 100000]⟩
abbrev S32x800000 : Shape := ⟨2, ![32, 800000]⟩
abbrev S_ : Shape := ⟨0, ![]⟩
abbrev S1 : Shape := ⟨1, ![1]⟩
abbrev S2 : Shape := ⟨1, ![2]⟩
abbrev S1x1 : Shape := ⟨2, ![1, 1]⟩
abbrev S32 : Shape := ⟨1, ![32]⟩
abbrev S8x4x1 : Shape := ⟨3, ![8, 4, 1]⟩
abbrev S8x4 : Shape := ⟨2, ![8, 4]⟩

abbrev nBuf : Space → Nat
  | .hbm => 299
  | .vmem => 0
  | .smem => 0
  | _ => 0

abbrev hbmTy0_0 (i : Nat) : BufTy := match i % 128 with
  | 0 => ⟨S8x32x1024, .f32⟩
  | 1 => ⟨S8x32x100000, .f32⟩
  | 2 => ⟨S32x800000, .f32⟩
  | 3 => ⟨S_, .f32⟩
  | 4 => ⟨S32x800000, .f32⟩
  | 5 => ⟨S32x800000, .f32⟩
  | 6 => ⟨S32x800000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S32x800000, .i64⟩
  | 28 => ⟨S32x800000, .i64⟩
  | 29 => ⟨S_, .i64⟩
  | 30 => ⟨S32x800000, .i64⟩
  | 31 => ⟨S32x800000, .i64⟩
  | 32 => ⟨S_, .i64⟩
  | 33 => ⟨S32x800000, .i64⟩
  | 34 => ⟨S32x800000, .i64⟩
  | 35 => ⟨S32x800000, .i64⟩
  | 36 => ⟨S_, .i64⟩
  | 37 => ⟨S32x800000, .i64⟩
  | 38 => ⟨S32x800000, .i64⟩
  | 39 => ⟨S32x800000, .i32⟩
  | 40 => ⟨S32x800000, .i32⟩
  | 41 => ⟨S_, .i32⟩
  | 42 => ⟨S_, .i32⟩
  | 43 => ⟨S_, .i32⟩
  | 44 => ⟨S32x800000, .i32⟩
  | 45 => ⟨S32x800000, .i32⟩
  | 46 => ⟨S32x800000, .i32⟩
  | 47 => ⟨S32x800000, .i32⟩
  | 48 => ⟨S32x800000, .i32⟩
  | 49 => ⟨S_, .i32⟩
  | 50 => ⟨S32x800000, .i32⟩
  | 51 => ⟨S32x800000, .i32⟩
  | 52 => ⟨S_, .i32⟩
  | 53 => ⟨S32x800000, .i32⟩
  | 54 => ⟨S32x800000, .i32⟩
  | 55 => ⟨S32x800000, .i32⟩
  | 56 => ⟨S32x800000, .i32⟩
  | 57 => ⟨S32x800000, .i32⟩
  | 58 => ⟨S_, .i32⟩
  | 59 => ⟨S32x800000, .i32⟩
  | 60 => ⟨S32x800000, .i32⟩
  | 61 => ⟨S_, .i32⟩
  | 62 => ⟨S32x800000, .i32⟩
  | 63 => ⟨S32x800000, .i32⟩
  | 64 => ⟨S32x800000, .i32⟩
  | 65 => ⟨S32x800000, .i32⟩
  | 66 => ⟨S32x800000, .i32⟩
  | 67 => ⟨S_, .i32⟩
  | 68 => ⟨S32x800000, .i32⟩
  | 69 => ⟨S32x800000, .i32⟩
  | 70 => ⟨S_, .i32⟩
  | 71 => ⟨S32x800000, .i32⟩
  | 72 => ⟨S32x800000, .i32⟩
  | 73 => ⟨S32x800000, .i32⟩
  | 74 => ⟨S32x800000, .i32⟩
  | 75 => ⟨S32x800000, .i32⟩
  | 76 => ⟨S_, .i32⟩
  | 77 => ⟨S32x800000, .i32⟩
  | 78 => ⟨S32x800000, .i32⟩
  | 79 => ⟨S_, .i32⟩
  | 80 => ⟨S32x800000, .i32⟩
  | 81 => ⟨S32x800000, .i32⟩
  | 82 => ⟨S32x800000, .i32⟩
  | 83 => ⟨S32x800000, .i32⟩
  | 84 => ⟨S32x800000, .i32⟩
  | 85 => ⟨S32x800000, .i32⟩
  | 86 => ⟨S32x800000, .i32⟩
  | 87 => ⟨S32x800000, .i32⟩
  | 88 => ⟨S_, .i32⟩
  | 89 => ⟨S32x800000, .i32⟩
  | 90 => ⟨S32x800000, .i32⟩
  | 91 => ⟨S32x800000, .i32⟩
  | 92 => ⟨S_, .i32⟩
  | 93 => ⟨S32x800000, .i32⟩
  | 94 => ⟨S32x800000, .i32⟩
  | 95 => ⟨S_, .i32⟩
  | 96 => ⟨S32x800000, .i32⟩
  | 97 => ⟨S32x800000, .i32⟩
  | 98 => ⟨S32x800000, .i32⟩
  | 99 => ⟨S32x800000, .i32⟩
  | 100 => ⟨S32x800000, .i32⟩
  | 101 => ⟨S_, .i32⟩
  | 102 => ⟨S32x800000, .i32⟩
  | 103 => ⟨S32x800000, .i32⟩
  | 104 => ⟨S_, .i32⟩
  | 105 => ⟨S32x800000, .i32⟩
  | 106 => ⟨S32x800000, .i32⟩
  | 107 => ⟨S32x800000, .i32⟩
  | 108 => ⟨S32x800000, .i32⟩
  | 109 => ⟨S32x800000, .i32⟩
  | 110 => ⟨S_, .i32⟩
  | 111 => ⟨S32x800000, .i32⟩
  | 112 => ⟨S32x800000, .i32⟩
  | 113 => ⟨S_, .i32⟩
  | 114 => ⟨S32x800000, .i32⟩
  | 115 => ⟨S32x800000, .i32⟩
  | 116 => ⟨S32x800000, .i32⟩
  | 117 => ⟨S32x800000, .i32⟩
  | 118 => ⟨S32x800000, .i32⟩
  | 119 => ⟨S_, .i32⟩
  | 120 => ⟨S32x800000, .i32⟩
  | 121 => ⟨S32x800000, .i32⟩
  | 122 => ⟨S_, .i32⟩
  | 123 => ⟨S32x800000, .i32⟩
  | 124 => ⟨S32x800000, .i32⟩
  | 125 => ⟨S32x800000, .i32⟩
  | 126 => ⟨S32x800000, .i32⟩
  | 127 => ⟨S32x800000, .i32⟩
  | _ => ⟨S8x32x1024, .f32⟩

abbrev hbmTy0_1 (i : Nat) : BufTy := match i % 128 with
  | 0 => ⟨S32x800000, .i32⟩
  | 1 => ⟨S32x800000, .i32⟩
  | 2 => ⟨S32x800000, .i32⟩
  | 3 => ⟨S_, .i32⟩
  | 4 => ⟨S32x800000, .i32⟩
  | 5 => ⟨S32x800000, .i32⟩
  | 6 => ⟨S32x800000, .i32⟩
  | 7 => ⟨S_, .i32⟩
  | 8 => ⟨S32x800000, .i32⟩
  | 9 => ⟨S32x800000, .i32⟩
  | 10 => ⟨S_, .i32⟩
  | 11 => ⟨S32x800000, .i32⟩
  | 12 => ⟨S32x800000, .i32⟩
  | 13 => ⟨S32x800000, .i32⟩
  | 14 => ⟨S32x800000, .i32⟩
  | 15 => ⟨S32x800000, .i32⟩
  | 16 => ⟨S_, .i32⟩
  | 17 => ⟨S32x800000, .i32⟩
  | 18 => ⟨S32x800000, .i32⟩
  | 19 => ⟨S_, .i32⟩
  | 20 => ⟨S32x800000, .i32⟩
  | 21 => ⟨S32x800000, .i32⟩
  | 22 => ⟨S32x800000, .i32⟩
  | 23 => ⟨S32x800000, .i32⟩
  | 24 => ⟨S32x800000, .i32⟩
  | 25 => ⟨S_, .i32⟩
  | 26 => ⟨S32x800000, .i32⟩
  | 27 => ⟨S32x800000, .i32⟩
  | 28 => ⟨S_, .i32⟩
  | 29 => ⟨S32x800000, .i32⟩
  | 30 => ⟨S32x800000, .i32⟩
  | 31 => ⟨S32x800000, .i32⟩
  | 32 => ⟨S32x800000, .i32⟩
  | 33 => ⟨S32x800000, .i32⟩
  | 34 => ⟨S_, .i32⟩
  | 35 => ⟨S32x800000, .i32⟩
  | 36 => ⟨S32x800000, .i32⟩
  | 37 => ⟨S_, .i32⟩
  | 38 => ⟨S32x800000, .i32⟩
  | 39 => ⟨S32x800000, .i32⟩
  | 40 => ⟨S32x800000, .i32⟩
  | 41 => ⟨S32x800000, .i32⟩
  | 42 => ⟨S32x800000, .i32⟩
  | 43 => ⟨S32x800000, .i32⟩
  | 44 => ⟨S32x800000, .i32⟩
  | 45 => ⟨S32x800000, .i32⟩
  | 46 => ⟨S_, .i32⟩
  | 47 => ⟨S32x800000, .i32⟩
  | 48 => ⟨S32x800000, .i32⟩
  | 49 => ⟨S32x800000, .i32⟩
  | 50 => ⟨S_, .i32⟩
  | 51 => ⟨S32x800000, .i32⟩
  | 52 => ⟨S32x800000, .i32⟩
  | 53 => ⟨S_, .i32⟩
  | 54 => ⟨S32x800000, .i32⟩
  | 55 => ⟨S32x800000, .i32⟩
  | 56 => ⟨S32x800000, .i32⟩
  | 57 => ⟨S32x800000, .i32⟩
  | 58 => ⟨S32x800000, .i32⟩
  | 59 => ⟨S_, .i32⟩
  | 60 => ⟨S32x800000, .i32⟩
  | 61 => ⟨S32x800000, .i32⟩
  | 62 => ⟨S_, .i32⟩
  | 63 => ⟨S32x800000, .i32⟩
  | 64 => ⟨S32x800000, .i32⟩
  | 65 => ⟨S32x800000, .i32⟩
  | 66 => ⟨S32x800000, .i32⟩
  | 67 => ⟨S32x800000, .i32⟩
  | 68 => ⟨S_, .i32⟩
  | 69 => ⟨S32x800000, .i32⟩
  | 70 => ⟨S32x800000, .i32⟩
  | 71 => ⟨S_, .i32⟩
  | 72 => ⟨S32x800000, .i32⟩
  | 73 => ⟨S32x800000, .i32⟩
  | 74 => ⟨S32x800000, .i32⟩
  | 75 => ⟨S32x800000, .i32⟩
  | 76 => ⟨S32x800000, .i32⟩
  | 77 => ⟨S_, .i32⟩
  | 78 => ⟨S32x800000, .i32⟩
  | 79 => ⟨S32x800000, .i32⟩
  | 80 => ⟨S_, .i32⟩
  | 81 => ⟨S32x800000, .i32⟩
  | 82 => ⟨S32x800000, .i32⟩
  | 83 => ⟨S32x800000, .i32⟩
  | 84 => ⟨S32x800000, .i32⟩
  | 85 => ⟨S32x800000, .i32⟩
  | 86 => ⟨S32x800000, .i32⟩
  | 87 => ⟨S32x800000, .i32⟩
  | 88 => ⟨S32x800000, .i32⟩
  | 89 => ⟨S_, .i32⟩
  | 90 => ⟨S32x800000, .i32⟩
  | 91 => ⟨S32x800000, .i32⟩
  | 92 => ⟨S32x800000, .i32⟩
  | 93 => ⟨S_, .i32⟩
  | 94 => ⟨S32x800000, .i32⟩
  | 95 => ⟨S32x800000, .i32⟩
  | 96 => ⟨S_, .i32⟩
  | 97 => ⟨S32x800000, .i32⟩
  | 98 => ⟨S32x800000, .i32⟩
  | 99 => ⟨S32x800000, .i32⟩
  | 100 => ⟨S32x800000, .i32⟩
  | 101 => ⟨S32x800000, .i32⟩
  | 102 => ⟨S_, .i32⟩
  | 103 => ⟨S32x800000, .i32⟩
  | 104 => ⟨S32x800000, .i32⟩
  | 105 => ⟨S_, .i32⟩
  | 106 => ⟨S32x800000, .i32⟩
  | 107 => ⟨S32x800000, .i32⟩
  | 108 => ⟨S32x800000, .i32⟩
  | 109 => ⟨S32x800000, .i32⟩
  | 110 => ⟨S32x800000, .i32⟩
  | 111 => ⟨S_, .i32⟩
  | 112 => ⟨S32x800000, .i32⟩
  | 113 => ⟨S32x800000, .i32⟩
  | 114 => ⟨S_, .i32⟩
  | 115 => ⟨S32x800000, .i32⟩
  | 116 => ⟨S32x800000, .i32⟩
  | 117 => ⟨S32x800000, .i32⟩
  | 118 => ⟨S32x800000, .i32⟩
  | 119 => ⟨S32x800000, .i32⟩
  | 120 => ⟨S_, .i32⟩
  | 121 => ⟨S32x800000, .i32⟩
  | 122 => ⟨S32x800000, .i32⟩
  | 123 => ⟨S_, .i32⟩
  | 124 => ⟨S32x800000, .i32⟩
  | 125 => ⟨S32x800000, .i32⟩
  | 126 => ⟨S32x800000, .i32⟩
  | 127 => ⟨S32x800000, .i32⟩
  | _ => ⟨S8x32x1024, .f32⟩

abbrev hbmTy0_2 (i : Nat) : BufTy := match i % 128 with
  | 0 => ⟨S32x800000, .i32⟩
  | 1 => ⟨S32x800000, .i32⟩
  | 2 => ⟨S32x800000, .i32⟩
  | 3 => ⟨S32x800000, .i32⟩
  | 4 => ⟨S_, .i32⟩
  | 5 => ⟨S32x800000, .i32⟩
  | 6 => ⟨S32x800000, .i32⟩
  | 7 => ⟨S32x800000, .i32⟩
  | 8 => ⟨S_, .i32⟩
  | 9 => ⟨S32x800000, .i32⟩
  | 10 => ⟨S32x800000, .i32⟩
  | 11 => ⟨S_, .i32⟩
  | 12 => ⟨S32x800000, .i32⟩
  | 13 => ⟨S32x800000, .i32⟩
  | 14 => ⟨S32x800000, .f32⟩
  | 15 => ⟨S_, .f32⟩
  | 16 => ⟨S32x800000, .f32⟩
  | 17 => ⟨S32x800000, .f32⟩
  | 18 => ⟨S1x1, .f32⟩
  | 19 => ⟨S32x800000, .f32⟩
  | 20 => ⟨S32x800000, .f32⟩
  | 21 => ⟨S32x800000, .f32⟩
  | 22 => ⟨S32x800000, .f32⟩
  | 23 => ⟨S32x800000, .f32⟩
  | 24 => ⟨S32x800000, .f32⟩
  | 25 => ⟨S_, .f32⟩
  | 26 => ⟨S32x800000, .f32⟩
  | 27 => ⟨S32x800000, .f32⟩
  | 28 => ⟨S_, .f32⟩
  | 29 => ⟨S32x800000, .f32⟩
  | 30 => ⟨S32x800000, .f32⟩
  | 31 => ⟨S32x800000, .f32⟩
  | 32 => ⟨S32x800000, .f32⟩
  | 33 => ⟨S32x800000, .f32⟩
  | 34 => ⟨S32x800000, .f32⟩
  | 35 => ⟨S32x800000, .f32⟩
  | 36 => ⟨S32x800000, .i32⟩
  | 37 => ⟨S_, .f32⟩
  | 38 => ⟨S_, .i32⟩
  | 39 => ⟨S32, .f32⟩
  | 40 => ⟨S32, .i32⟩
  | 41 => ⟨S8x4x1, .i32⟩
  | 42 => ⟨S8x4, .i32⟩
  | _ => ⟨S8x32x1024, .f32⟩

abbrev hbmTy (i : Nat) : BufTy := match i / 128 with
  | 0 => hbmTy0_0 i
  | 1 => hbmTy0_1 i
  | 2 => hbmTy0_2 i
  | _ => ⟨S8x32x1024, .f32⟩

abbrev bufTy : (tb : Table) → Fin (tcTables nBuf tb) → BufTy
  | .hbm, ⟨i, _⟩ => hbmTy i
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v19_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v19_1 : Ref sig .tc := ⟨.hbm, 262, rfl⟩
abbrev main_call0_v20 : Ref sig .tc := ⟨.hbm, 263, rfl⟩
abbrev main_call0_c_2 : Ref sig .tc := ⟨.hbm, 264, rfl⟩
abbrev main_call0_v21 : Ref sig .tc := ⟨.hbm, 265, rfl⟩
abbrev main_call0_v22 : Ref sig .tc := ⟨.hbm, 266, rfl⟩
abbrev main_call0_c_3 : Ref sig .tc := ⟨.hbm, 267, rfl⟩
abbrev main_call0_v23 : Ref sig .tc := ⟨.hbm, 268, rfl⟩
abbrev main_call0_v24 : Ref sig .tc := ⟨.hbm, 269, rfl⟩
abbrev main_call0_v25 : Ref sig .tc := ⟨.hbm, 270, rfl⟩
abbrev main_call0_cst : Ref sig .tc := ⟨.hbm, 271, rfl⟩
abbrev main_call0_v26 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_v11 : Ref sig .tc := ⟨.hbm, 280, rfl⟩
abbrev main_cst_4 : Ref sig .tc := ⟨.hbm, 281, rfl⟩
abbrev main_v12 : Ref sig .tc := ⟨.hbm, 282, rfl⟩
abbrev main_v13 : Ref sig .tc := ⟨.hbm, 283, rfl⟩
abbrev main_cst_5 : Ref sig .tc := ⟨.hbm, 284, rfl⟩
abbrev main_v14 : Ref sig .tc := ⟨.hbm, 285, rfl⟩
abbrev main_v15 : Ref sig .tc := ⟨.hbm, 286, rfl⟩
abbrev main_v16 : Ref sig .tc := ⟨.hbm, 287, rfl⟩
abbrev main_v17 : Ref sig .tc := ⟨.hbm, 288, rfl⟩
abbrev main_v18 : Ref sig .tc := ⟨.hbm, 289, rfl⟩
abbrev main_v19 : Ref sig .tc := ⟨.hbm, 290, rfl⟩
abbrev main_v20 : Ref sig .tc := ⟨.hbm, 291, rfl⟩
abbrev main_call1_v0 : Ref sig .tc := ⟨.hbm, 292, rfl⟩
abbrev main_call1_cst : Ref sig .tc := ⟨.hbm, 293, rfl⟩
abbrev main_call1_c : Ref sig .tc := ⟨.hbm, 294, rfl⟩
abbrev main_call1_v1_0 : Ref sig .tc := ⟨.hbm, 295, rfl⟩
abbrev main_v21 : Ref sig .tc := ⟨.hbm, 296, rfl⟩
abbrev main_v22 : Ref sig .tc := ⟨.hbm, 297, rfl⟩
abbrev main_v23 : Ref sig .tc := ⟨.hbm, 298, rfl⟩

abbrev nD : Nat := 1
abbrev τ : Topo := Topo.v7x

variable {F : FTy → Type} [FloatOps F]
-- ==== Proof.GatherTask.lean ====
/-
  One task of the row gather, on vector subcore `s` of SparseCore `c`: it has the number `2 * s + c`, one of thirty-two.
  The task copies row `2 * s + c` of the row numbers into its own list, streams the rows of the table that the list names into its own
  row buffer, and copies that buffer to block `2 * s + c` of the result. This file states what the task is handed and what it gives
  back (`P`), says what the result holds (`gathered`), and proves the task's run.
-/
module

public import proofs.«01_k».proof.Defs
public import proofs.«01_k».proof.Proof.Gen.GatherIdeal
public import proofs.«01_k».proof.Proof.Gen.GatherIdeal.Skeleton
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.Gather

open Cert.GatherIdeal Cert.GatherIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The arrays -/

/-- The two arguments, the table (the first argument reshaped) and the result. -/
abbrev pLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The table: the first argument in row-major order, 128 to a row. -/
def table (d : Dev nD) : Buf (Elt F) (tLoc d) := fun j : S200000x128.Idx =>
  (shapeCast (s := S8x32x100000) S200000x128 (m (pLoc d)) shapeCasts_S8x32x100000_S200000x128 : S200000x128.Idx → Elt F .f32) j

/-- The row number at place `(a, b)` of the second argument. -/
def rowNo (d : Dev nD) (a : Fin 32) (b : Fin 128) : BitVec 32 := m (iLoc d) (ix2 a b : S32x128.Idx)

/-- The result: at `(a, b, l)` element `l` of the row of the table that the row number at `(a, b)` names. -/
def gathered (d : Dev nD) : Buf (Elt F) (oLoc d) := fun j : S32x128x128.Idx =>
  table m d (ix2 ⟨(rowNo m d (j 0) (j 1)).toNat % 200000, Nat.mod_lt _ (by decide)⟩ (j 2) : S200000x128.Idx)

/-- Every row number names a row of the table. -/
def InRange : Prop := ∀ (d : Dev nD) (j : S32x128.Idx), (m (iLoc d) j).toNat < 200000

/-! ## The tasks' parts of the arrays -/

theorem idiv : 32 ∣ S32x128.size 0 := ⟨1, rfl⟩
theorem odiv : 32 ∣ S32x128x128.size 0 := ⟨1, rfl⟩
/-- Row `w` of the row numbers and block `w` of the result. -/
abbrev iPart (w : Fin 32) : Finset S32x128.Idx := (Rect.part (s := S32x128) (a₀ := 0) idiv w).set
abbrev oPart (w : Fin 32) : Finset S32x128x128.Idx := (Rect.part (s := S32x128x128) (a₀ := 0) odiv w).set
/-- The share of the table task `w` reads it by. -/
abbrev tShare (w : Fin 32) : PosShare TreeShare := ShareLeaves.leaf 5 fullShare w

/-- The number of the task on subcore `s` of SparseCore `c`. -/
def taskNo (c : Fin 2) (s : Fin 16) : Fin 32 := ⟨2 * s.val + c.val, by omega⟩

variable [FloatOps F]

/-- What task `w` is handed, `f` being what its block of the result holds. -/
abbrev part (d : Dev nD) (w : Fin 32) (f : Buf (Elt F) (oLoc d)) : sProp 𝕄 :=
  iprop((iLoc d ↦[iPart w]{fullShare} m (iLoc d)) ∗ (tLoc d ↦{tShare w} table m d) ∗ (oLoc d ↦[oPart w]{fullShare} f))

/-- The call hands each task its part, and takes it back with the gathered rows in its block of the result. -/
def P : (K (F := F)).Pay (nD := nD) (Val := Elt F) (Name := ℕ) (U := UU) where
  st := fun q d c => match q with | 0 => bigSep Finset.univ fun i : Fin 16 => part m d (taskNo c i) (m (oLoc d))
  dn := fun q d c => match q with | 0 => bigSep Finset.univ fun i : Fin 16 => part m d (taskNo c i) (gathered m d)
  go := fun q d c i => match q with | 0 => part m d (taskNo c i) (m (oLoc d))
  td := fun q d c i => match q with | 0 => part m d (taskNo c i) (gathered m d)
  x := fun _ _ => iprop(emp)

instance P_storable : (P (F := F) m).IsStorable where
  st q d c := match q with
    | 0 => (inferInstance : BI.Storable (upEmb : UEmb _ 𝕄) (bigSep Finset.univ fun i : Fin 16 => part m d (taskNo c i) (m (oLoc d))))
  dn q d c := match q with
    | 0 => (inferInstance : BI.Storable (upEmb : UEmb _ 𝕄) (bigSep Finset.univ fun i : Fin 16 => part m d (taskNo c i) (gathered m d)))
  go q d c i := match q with
    | 0 => (inferInstance : BI.Storable (upEmb : UEmb _ 𝕄) (part m d (taskNo c i) (m (oLoc d))))
  td q d c i := match q with
    | 0 => (inferInstance : BI.Storable (upEmb : UEmb _ 𝕄) (part m d (taskNo c i) (gathered m d)))

/-! ## The task's views -/

local notation "iV" => (Memref.whole Cert.GatherIdeal.main_arg1_scv : Memref Cert.GatherIdeal.sig Kind.scVector Space.hbm Cert.GatherIdeal.S32x128 EltTy.i32)
local notation "tV" => (Memref.whole Cert.GatherIdeal.main_v0_scv : Memref Cert.GatherIdeal.sig Kind.scVector Space.hbm Cert.GatherIdeal.S200000x128 EltTy.f32)
local notation "oV" => (Memref.whole Cert.GatherIdeal.main_v1_scv : Memref Cert.GatherIdeal.sig Kind.scVector Space.hbm Cert.GatherIdeal.S32x128x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x128 EltTy.f32)

section Tile

variable (d : Dev nD) (L : grid0.Coords)

abbrev cV (L : grid0.Coords) : Fin τ.nSC := (L 0).castLE hcore0
abbrev jV (L : grid0.Coords) : Fin τ.nSub := (L 1).castLE hsub0
abbrev wL (L : grid0.Coords) : Fin 32 := taskNo (L 0) (L 1)

abbrev iRowK (L : grid0.Coords) : Memref sig .scVector .hbm S128 .i32 :=
  ((iV).slice (Rect.unit (s := S32x128) (k0_off1 L) S1x128.size (k0_off1_inb L)) (fun _ => rfl)).squeeze S128 squeezes_S1x128_S128
abbrev oRowK (L : grid0.Coords) : Memref sig .scVector .hbm S128x128 .f32 :=
  ((oV).slice (Rect.unit (s := S32x128x128) (k0_off2 L) S1x128x128.size (k0_off2_inb L)) (fun _ => rfl)).squeeze S128x128 squeezes_S1x128x128_S128x128
abbrev tAllK : Memref sig .scVector .hbm S200000x128 .f32 :=
  (tV).slice (Rect.unit (s := S200000x128) ![0, 0] S200000x128.size inb_S200000x128_S200000x128_0_0) (fun _ => rfl)

omit [FloatOps F] in
theorem iRect_eq : Rect.unit (s := S32x128) (k0_off1 L) S1x128.size (k0_off1_inb L) = Rect.part (s := S32x128) (a₀ := 0) idiv (wL L) := by
  unfold Rect.part Rect.block
  congr 1 <;> funext a
  · rw [k0_off1_eq]
    fin_cases a <;> simp [Shape.partIx, Shape.partSize, wL, taskNo]
  · fin_cases a <;> simp [Shape.partSize]
omit [FloatOps F] in
theorem oRect_eq : Rect.unit (s := S32x128x128) (k0_off2 L) S1x128x128.size (k0_off2_inb L) = Rect.part (s := S32x128x128) (a₀ := 0) odiv (wL L) := by
  unfold Rect.part Rect.block
  congr 1 <;> funext a
  · rw [k0_off2_eq]
    fin_cases a <;> simp [Shape.partIx, Shape.partSize, wL, taskNo]
  · fin_cases a <;> simp [Shape.partSize]

omit [FloatOps F] in
theorem set_iRowK : (iRowK L).view.set = iPart (wL L) := by
  show (((iV).view.slice (Rect.unit (s := S32x128) (k0_off1 L) S1x128.size (k0_off1_inb L))).reshape S128 squeezes_S1x128_S128.numel_eq).set = _
  rw [View.set_reshape, View.set_slice]
  exact (Finset.map_refl).trans (congrArg (fun r => r.set) (iRect_eq L))
omit [FloatOps F] in
theorem set_oRowK : (oRowK L).view.set = oPart (wL L) := by
  show (((oV).view.slice (Rect.unit (s := S32x128x128) (k0_off2 L) S1x128x128.size (k0_off2_inb L))).reshape S128x128 squeezes_S1x128x128_S128x128.numel_eq).set = _
  rw [View.set_reshape, View.set_slice]
  exact (Finset.map_refl).trans (congrArg (fun r => r.set) (oRect_eq L))

omit [FloatOps F] in
theorem pts_iRowK (f : Buf (Elt F) (iLoc d)) :
    ((iRowK L).view.loc (V d (cV L) (jV L)) ↦[(iRowK L).view.set]{fullShare} f : sProp 𝕄) = iLoc d ↦[iPart (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oPart (wL L)]{fullShare} f := by
  rw [set_oRowK]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Place `x` of the task's row is place `(w, x)` of the row numbers. -/
theorem iRowK_emb (x : S128.Idx) : ((iRowK L).view.emb x : S32x128.Idx) = ix2 (wL L) (x 0) := by
  show (Rect.unit (s := S32x128) (k0_off1 L) S1x128.size (k0_off1_inb L)).emb (Shape.reshapeEquiv squeezes_S1x128_S128.numel_eq x) = _
  rw [Shape.reshapeEquiv_cons_one]
  funext a; apply Fin.ext; rw [Rect.emb_apply]
  match a with
  | ⟨0, _⟩ => exact (congrArg (· + 1 * 0) (congrFun (k0_off1_eq L) 0)).trans (by show 2 * (L 1).val + (L 0).val + 1 * 0 = 2 * (L 1).val + (L 0).val; omega)
  | ⟨1, _⟩ => exact (congrArg (· + 1 * (x 0).val) (congrFun (k0_off1_eq L) 1)).trans (by show 0 + 1 * (x 0).val = (x 0).val; omega)
omit [FloatOps F] in
/-- Place `(x, y)` of the task's block is place `(w, x, y)` of the result. -/
theorem oRowK_emb (x : S128x128.Idx) : ((oRowK L).view.emb x : S32x128x128.Idx) = ix3 (wL L) (x 0) (x 1) := by
  show (Rect.unit (s := S32x128x128) (k0_off2 L) S1x128x128.size (k0_off2_inb L)).emb (Shape.reshapeEquiv squeezes_S1x128x128_S128x128.numel_eq x) = _
  rw [Shape.reshapeEquiv_cons_one]
  funext a; apply Fin.ext; rw [Rect.emb_apply]
  match a with
  | ⟨0, _⟩ => exact (congrArg (· + 1 * 0) (congrFun (k0_off2_eq L) 0)).trans (by show 2 * (L 1).val + (L 0).val + 1 * 0 = 2 * (L 1).val + (L 0).val; omega)
  | ⟨1, _⟩ => exact (congrArg (· + 1 * (x 0).val) (congrFun (k0_off2_eq L) 1)).trans (by show 0 + 1 * (x 0).val = (x 0).val; omega)
  | ⟨2, _⟩ => exact (congrArg (· + 1 * (x 1).val) (congrFun (k0_off2_eq L) 2)).trans (by show 0 + 1 * (x 1).val = (x 1).val; omega)

/-- What the first copy lands in the list: the task's row of the row numbers. -/
def list : Buf (Elt F) ((V d (cV L) (jV L)).loc cc0_scratch0) := fun x : S128.Idx => rowNo m d (wL L) (x 0)
/-- What the stream lands in the row buffer: the task's block of the result. -/
def block : Buf (Elt F) ((V d (cV L) (jV L)).loc cc0_scratch1) := fun x : S128x128.Idx => gathered m d (ix3 (wL L) (x 0) (x 1) : S32x128x128.Idx)

omit [FloatOps F] in
theorem list_landed (fs : Buf (Elt F) ((V d (cV L) (jV L)).loc cc0_scratch0)) (pay : S128.Idx → Elt F .i32)
    (hpay : pay = (iRowK L).view.read (Elt F) (m (iLoc d))) :
    View.write (Elt F) (sV).view fs pay Finset.univ = list m d L := by
  subst hpay
  rw [View.write_whole_univ]
  funext x
  refine ((View.read_apply _ _).trans (cast_eq _ _)).trans ?_
  exact congrArg (m (iLoc d)) (iRowK_emb L x)

omit [FloatOps F] in
theorem list_inRange (hpre : InRange m) (x : S128.Idx) : ((sV).view.read (Elt F) (list m d L) x).toNat < S200000x128.size gathers_S200000x128_S128x128.axis := by
  simp only [Memref.view_whole, View.read_whole]
  exact hpre d _

omit [FloatOps F] in
theorem block_landed (hpre : InRange m) (fr : Buf (Elt F) ((V d (cV L) (jV L)).loc cc0_scratch1)) (hn : S128.numel = S128x128.size gathers_S200000x128_S128x128.axis') :
    (rV).view.write (Elt F) fr (SparseCore.gatherPayload gathers_S200000x128_S128x128 ((tAllK).view.read (Elt F) (table m d))
      (SparseCore.rows ((sV).view.read (Elt F) (list m d L)) hn (list_inRange m d L hpre))) Finset.univ = block m d L := by
  rw [View.write_whole_univ]
  funext x
  refine ((View.read_apply _ _).trans (cast_eq _ _)).trans ?_
  refine congrArg (table m d) ?_
  have hr : ((tAllK).view.emb (gathers_S200000x128_S128x128.idx (SparseCore.rows ((sV).view.read (Elt F) (list m d L)) hn (list_inRange m d L hpre)) x) : S200000x128.Idx)
      = gathers_S200000x128_S128x128.idx (SparseCore.rows ((sV).view.read (Elt F) (list m d L)) hn (list_inRange m d L hpre)) x := by
    funext a; apply Fin.ext
    refine (Rect.emb_apply _ _ _).trans ?_
    match a with
    | ⟨0, _⟩ => exact (Nat.zero_add _).trans (Nat.one_mul _)
    | ⟨1, _⟩ => exact (Nat.zero_add _).trans (Nat.one_mul _)
  refine hr.trans ?_
  funext a
  match a with
  | ⟨0, _⟩ =>
    refine (Shape.Gathers.idx_axis gathers_S200000x128_S128x128 _ x).trans (Fin.ext ?_)
    refine Eq.trans ?_ (Nat.mod_eq_of_lt (hpre d (ix2 (wL L) (x 0) : S32x128.Idx))).symm
    have hx : S128.rowMajor.symm ((x (gathers_S200000x128_S128x128).axis').cast hn.symm) = (ix1 (x 0) : S128.Idx) :=
      S128.rowMajor.symm_apply_eq.mpr (Fin.ext (Shape.rowMajor_val_one (ix1 (x 0) : S128.Idx)).symm)
    show ((sV).view.read (Elt F) (list m d L) (S128.rowMajor.symm ((x (gathers_S200000x128_S128x128).axis').cast hn.symm))).toNat = _
    rw [hx]
    rfl
  | ⟨1, _⟩ => exact Fin.ext (Shape.Gathers.idx_of_ne gathers_S200000x128_S128x128 _ x (1 : Fin 2) (by decide))

omit [FloatOps F] in
theorem result_landed (f : Buf (Elt F) (oLoc d)) (pay : S128x128.Idx → Elt F .f32) (hpay : pay = (rV).view.read (Elt F) (block m d L)) :
    ∀ j ∈ (oRowK L).view.set, (oRowK L).view.writes (Elt F) f [⟨Rect.whole S128x128, pay⟩] j = gathered m d j := by
  subst hpay
  intro j hj
  obtain ⟨x, -, rfl⟩ := Finset.mem_map.mp hj
  have hx : (oRowK L).view.emb x = ((oRowK L).view.slice (Rect.whole S128x128)).emb x :=
    congrArg (oRowK L).view.emb (Rect.emb_whole_apply S128x128 x).symm
  rw [View.writes_singleton]
  refine (congrArg _ hx).trans ?_
  refine (View.write_emb_of_mem _ _ (Finset.mem_univ (α := S128x128.Idx) x)).trans ?_
  refine (cast_eq _ _).trans ?_
  exact congrArg (gathered m d) (oRowK_emb L x).symm

set_option maxHeartbeats 4000000 in
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ part m d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop(part m d (wL L) (gathered m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (show (tLoc d ↦{tShare (wL L)} table m d : sProp 𝕄) = (tV).view.loc (V d (cV L) (jV L)) ↦{tShare (wL L)} table m d from rfl)) $$ Ht
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  sl_exec
  rw [list_landed m d L fs (tile_body.sl.dma0 m d L) rfl]
  have hN : ∀ h : S200000x128.Gathers 0 S128x128, ∑ j, ((rV).slice (S128x128.rowRect h.axis' j) (S128x128.stride_rowRect h.axis' j)).view.dmaCredit
      = (rV).view.dmaCredit := by decide
  iapply (SparseCore.wp_gatherFromWhole countersEmb 𝒱₀ (V d (cV L) (jV L)) none (hg := gathers_S200000x128_S128x128) (src := tAllK) (default : HIx 1)
      (rV).view.dmaCredit (hN _) (by decide) (list_inRange m d L hpre)) $$ [Ht' Hr' Hs' HsemB]
  · isplitl [Ht']; · iexact Ht'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Ht', Hs'⟩, HsemB, HO⟩
  ihave Hr' := (Entails.of_eq (congrArg (fun f => ((rV).view.loc (V d (cV L) (jV L)) ↦{fullShare} f : sProp 𝕄)) (block_landed m d L hpre fr rfl))) $$ Hr'
  sl_exec
  sl_step
  ihave Ho' := (Entails.of_eq (pointsTo_congr (result_landed m d L (m (oLoc d)) (tile_body.sl.dma0_1 m d L) rfl))) $$ Ho'
  isplitl [Hi' Ht' Ho']
  · isplitl [Hi']; · iapply (Entails.of_eq (pts_iRowK (F := F) d L _)); iexact Hi'
    isplitl [Ht']; · iexact Ht'
    iapply (Entails.of_eq (pts_oRowK (F := F) d L _)); iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

/-! ## The obligation -/

/-- The point of the grid at core `c` and subcore `s`. -/
def pointAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (pointAt c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

set_option maxRecDepth 16384 in
/-- Every task of the call meets its obligation. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body m d (pointAt ⟨_, hci.1⟩ ⟨_, hci.2⟩) hF hpre O W hO).trans (wp_mono frame _ _ fun _ => ?_)
  refine sep_mono_right (sep_mono_right (sep_mono_right ?_))
  iintro ⟨%W', %hW', HO⟩
  iexists W'; isplitr
  · ipureintro; exact fun p hp => (hW' p hp).imp_right Or.inl
  · iexact HO

end Tile

end Cert.Proof.Gather

end
-- ==== Proof.GatherLaunch.lean ====
/-
  The whole run of the row gather: the table is made by reshaping the first argument, the three arrays are dealt to the thirty-two
  tasks and collected again, and the run ends with the arguments as they were and the gathered rows in the result.
-/
module

public import proofs.«01_k».proof.Proof.GatherTask
public import proofs.«01_k».proof.Proof.Gen.Gather
public import proofs.«01_k».proof.Proof.Gen.Pre_rows_in_range

@[expose] public section

noncomputable section

namespace Cert.Proof.Gather

open Cert.GatherIdeal Cert.GatherIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Dealing the arrays to the tasks -/

/-- The thirty-two tasks, counted through the sixteen subcores of each of the two SparseCores. -/
def taskEquiv : Fin 2 × Fin 16 ≃ Fin 32 where
  toFun x := taskNo x.1 x.2
  invFun w := (⟨w.val % 2, Nat.mod_lt _ (by decide)⟩, ⟨w.val / 2, by omega⟩)
  left_inv x := Prod.ext (Fin.ext (by simp only [taskNo]; omega)) (Fin.ext (by simp only [taskNo]; omega))
  right_inv w := Fin.ext (by simp only [taskNo]; omega)

variable [FloatOps F]

omit [FloatOps F] in
/-- The three arrays, dealt to the tasks: the row numbers and the result in parts, the table in shares. -/
theorem deal (d : Dev nD) (f : Buf (Elt F) (oLoc d)) :
    (iprop((iLoc d ↦{fullShare} m (iLoc d)) ∗ (tLoc d ↦{fullShare} table m d) ∗ (oLoc d ↦{fullShare} f)) : sProp 𝕄)
      = bigSep Finset.univ fun c : Fin 2 => bigSep Finset.univ fun i : Fin 16 => part m d (taskNo c i) f := by
  have hi : (iLoc d ↦{fullShare} m (iLoc d) : sProp 𝕄) = bigSep Finset.univ fun w : Fin 32 => iLoc d ↦[iPart w]{fullShare} m (iLoc d) := by
    rw [← pointsTo_biUnion Finset.univ (ℓ := iLoc d) iPart (fun _ _ _ _ h => Rect.part_disjoint idiv h),
      show (Finset.univ : Finset (Fin 32)).biUnion iPart = Finset.univ from Rect.biUnion_part idiv]
    try rfl
  have ho : (oLoc d ↦{fullShare} f : sProp 𝕄) = bigSep Finset.univ fun w : Fin 32 => oLoc d ↦[oPart w]{fullShare} f := by
    rw [← pointsTo_biUnion Finset.univ (ℓ := oLoc d) oPart (fun _ _ _ _ h => Rect.part_disjoint odiv h),
      show (Finset.univ : Finset (Fin 32)).biUnion oPart = Finset.univ from Rect.biUnion_part odiv]
    try rfl
  have ht : (tLoc d ↦{fullShare} table m d : sProp 𝕄) = bigSep Finset.univ fun w : Fin 32 => tLoc d ↦{tShare w} table m d :=
    ShareLeaves.pointsTo_leaves Finset.univ (table m d) 5 fullShare
  rw [hi, ho, ht, ← bigSep_sep', ← bigSep_sep', bigSep_univ_equiv taskEquiv, bigSep_univ_prod]
  rfl

theorem vecSplit : (K (F := F)).VecSplit' (P m) 0 := by
  intro d c
  have hs : (P m).st 0 d c = bigSep Finset.univ fun i : Fin ((K (F := F)).nSub 0) => (P m).go 0 d c i := rfl
  have hd : (P m).dn 0 d c = bigSep Finset.univ fun i : Fin ((K (F := F)).nSub 0) => (P m).td 0 d c i := rfl
  rw [hs, hd]
  iintro H; imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [e, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

abbrev p' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The operation that makes the table. -/
abbrev opTable : HloOp τ sig (Elt F) :=
  StableHlo.reshape main_arg0 main_v0 (rfl : (.f32 : EltTy) = .f32) shapeCasts_S8x32x100000_S200000x128

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (iLoc d ↦{fullShare} W main_arg1)
      ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
theorem held_pt (d : Dev nD) (W : Valuation τ sig (Elt F)) :
    (held (T d) {p', t'} W : sProp 𝕄) = iprop((pLoc d ↦{fullShare} W p') ∗ tLoc d ↦{fullShare} W t') := by
  unfold held
  rw [SparseCore.bigSep_insert' (by decide), bigSep_singleton]

/-- The launch memory, read as a valuation of the device's arrays. -/
def V0 (d : Dev nD) : Valuation τ sig (Elt F) := fun b => m (d, b)

omit [FloatOps F] in
theorem opTable_t (d : Dev nD) : (opTable (F := F)).result (V0 m d) t' = table m d :=
  (StableHlo.reshape_result main_arg0 main_v0 _ _ _ _ (V0 m d)).trans rfl
omit [FloatOps F] in
theorem opTable_p (d : Dev nD) : (opTable (F := F)).result (V0 m d) p' = m (pLoc d) :=
  (StableHlo.reshape_result_ne (x := main_arg0) (y := main_v0) _ _ _ _ (V0 m d) (r := main_arg0) (by decide)).trans rfl

/-- What the program leaves: the arguments as launched, the gathered rows in the result. -/
abbrev FIN (d : Dev nD) : sProp 𝕄 :=
  iprop((pLoc d ↦{fullShare} m (pLoc d)) ∗ (iLoc d ↦{fullShare} m (iLoc d)) ∗ oLoc d ↦{fullShare} gathered m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hi, Ht, Ho⟩, Hts, -⟩, -⟩
  iapply (wp_hlo_within 𝒱 (SparseCore.T d) none Set.univ (op := opTable) (S := {p', t'})
    (show ({p', t'} : Finset (DevRef τ sig)) ⊆ {p', t'} from Finset.Subset.refl _) (V := V0 m d)) $$ [Hb Hp Ht]
  · isplitl [Hb]; · iexact Hb
    rw [held_pt]
    isplitl [Hp]; · iexact Hp
    iexact Ht
  iintro ⟨Hb, Hheld⟩
  ihave Hh := (Entails.of_eq (held_pt (F := F) d _)) $$ Hheld
  icases Hh with ⟨Hp, Ht⟩
  rw [opTable_p, opTable_t]
  rw [wp_ret]; imodintro
  iapply ((K (F := F)).wp_run (D (F := F)) 𝒱 (EH := EH) (P := P m) κ d 0) $$ [Hst Hi Ht Ho Hb Hts Hp]
  isplitr; · iexact Hctx
  isplitl [Hst]; · iexact Hst
  isplitl [Hi Ht Ho]
  · iapply (Entails.of_eq (deal m d (m (oLoc d))))
    isplitl [Hi]; · iexact Hi
    isplitl [Ht]; · iexact Ht
    iexact Ho
  iintro ⟨Hst, Hdn⟩
  ihave Hdn' := (Entails.of_eq (show (bigSep Finset.univ fun c : Fin ((K (F := F)).nCore 0) => (P m).dn 0 d c) = _ from (deal m d (gathered m d)).symm)) $$ Hdn
  icases Hdn' with ⟨Hi, -, Ho⟩
  imodintro
  isplitl [Hst]; · iexact Hst
  isplitr [Hb Hts]
  · isplitl [Hp]; · iexact Hp
    isplitl [Hi]; · iexact Hi
    iexact Ho
  isplitl [Hb] <;> iassumption

/-! ## The run -/

def fq (d : Dev nD) (s' : Phys nD τ sig (Elt F)) : Prop :=
  s'.mem.mem (pLoc d) = m (pLoc d) ∧ s'.mem.mem (iLoc d) = m (iLoc d) ∧ s'.mem.mem (oLoc d) = gathered m d

omit [FloatOps F] in
/-- An array held whole at `f` is at `f` in the state. -/
theorem read_whole {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  refine (persistent_entails_right (SI_pointsTo_agree (st := s') (ℓ := ℓ) (I := Finset.univ) (q := fullShare) (f := f))).trans ?_
  iintro ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hp, Hi, Ho⟩, HSI⟩
  ihave H := (read_whole s') $$ [HSI Hp]
  · isplitl [HSI] <;> iassumption
  icases H with ⟨%h1, HSI⟩
  ihave H := (read_whole s') $$ [HSI Hi]
  · isplitl [HSI] <;> iassumption
  icases H with ⟨%h2, HSI⟩
  ihave H := (read_whole s') $$ [HSI Ho]
  · isplitl [HSI] <;> iassumption
  icases H with ⟨%h3, -⟩
  ipureintro; exact ⟨h1, h2, h3⟩

def QC : PUnit × MemSt nD τ sig (Elt F) → Prop := fun r =>
  (∀ c : Dev nD, r.2.mem (pLoc c) = m (pLoc c) ∧ r.2.mem (iLoc c) = m (iLoc c) ∧ r.2.mem (oLoc c) = gathered m c) ∧ r.2.sem = fun _ => 0

/-- From row numbers in range the program runs: the arguments unchanged, the result the gathered rows, every counter back at zero. -/
theorem run_main [∀ e, Nonempty (Elt F e)] (hpre : InRange m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The precondition -/

/-- A word that is at least zero and below 200000, signed, is below 200000 as a natural number. -/
theorem word_inRange (v : BitVec 32) (e : IntOp.andi (IntOp.cmpi .sge v 0#32) (IntOp.cmpi .slt v 200000#32) = 1#1) : v.toNat < 200000 := by
  have h : (0#32).sle v = true ∧ v.slt 200000#32 = true := by
    revert e
    show BitVec.ofBool ((0#32).sle v) &&& BitVec.ofBool (v.slt 200000#32) = 1#1 → _
    cases (0#32).sle v <;> cases v.slt 200000#32 <;> simp
  have h1 := h.1
  have h2 := h.2
  rw [BitVec.sle_eq_decide, decide_eq_true_eq] at h1
  rw [BitVec.slt_eq_decide, decide_eq_true_eq] at h2
  simp only [BitVec.toInt_eq_toNat_cond, BitVec.toNat_ofNat, Nat.reducePow, Nat.reduceMod] at h1 h2
  omega

theorem inRange_of_pre (m : (ℓ : Loc nD τ sig) → Buf (Elt F) ℓ)
    (h : ∀ c : Dev nD, Cert.Pre_rows_in_range.fn (F := F) (m (pLoc c)) (m (iLoc c)) = fun _ => 1#1) : InRange m :=
  fun d j => word_inRange _ (congrFun (h d) j)

/-! ## The frames -/

theorem frame_gather : Cert.quiescent_Gather := fun m ρ hpre =>
  (θ_run Cert.GatherIdeal.defs _ _).mono (fun _ h => ⟨fun c => ⟨(h.1 c).1, (h.1 c).2.1⟩, h.2⟩) (run_main (F := Bits) m ρ (inRange_of_pre (F := Bits) m hpre))

theorem frame_gatherIdeal : Cert.quiescent_GatherIdeal := fun m ρ hpre =>
  (θ_run Cert.GatherIdeal.defs _ _).mono (fun _ h => ⟨fun c => ⟨(h.1 c).1, (h.1 c).2.1⟩, h.2⟩) (run_main (F := Ideal) m ρ (inRange_of_pre (F := Ideal) m hpre))

end Cert.Proof.Gather

end
-- ==== Proof.GatherValue.lean ====
/-
  The value of the row gather: the reference takes row `n` of the table for each row number `n`, which is what the tasks gather.
-/
module

public import proofs.«01_k».proof.Proof.GatherLaunch
public import proofs.«01_k».proof.Proof.Gen.GatherReferenceIdeal
public import proofs.«01_k».proof.Proof.Gen.GatherReferenceIdeal.Run
public import Idealize.ShloMosaic.Lib.Claim
public import Idealize.ShloMosaic.Lib.StableHlo.RunHlo

@[expose] public section

noncomputable section

namespace Cert.Proof.Gather

open Idealize.ShloMosaic Idealize.ShloMosaic.ValueIdx Idealize.SL.Sem

/-- The reference declares no semaphore, so its counters are all zero. -/
theorem frame_reference : Cert.quiescent_GatherReferenceIdeal := fun m g _ =>
  θ_run_mono (Cert.GatherReferenceIdeal.Value.run m g) fun r h => ⟨fun c => (h c).2, funext fun s => by
    rcases s with ⟨_, ⟨i⟩ | ⟨i⟩⟩ <;> exact i.elim0⟩

section Read

open Cert.GatherReferenceIdeal Cert.GatherReferenceIdeal.Gen

/-- The gather's dimensions. -/
abbrev gd := Cert.GatherReferenceIdeal.gather_S200000x128_S32x128x1_S32x128x128_2_0_n_n_0_2_1128

/-- Taking rows, at an index: row `min idx 199999` of the operand, at the index's last coordinate. -/
theorem takeRows_apply {α : Type} (x : S200000x128.Idx → α) (idx : IVec S32x128x1 32) (y : S32x128x128.Idx) :
    Host.gather gd x idx y
      = x (ix2 ⟨min (idx (ix3 (y 0) (y 1) (0 : Fin 1) : S32x128x1.Idx)).toInt.toNat 199999, by omega⟩ (y 2) : S200000x128.Idx) := by
  unfold Host.gather
  refine congrArg x (funext fun a => Fin.ext ?_)
  show gd.start y idx a + gd.batchCoord y a + gd.offCoord y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gd.startIndexMap from List.mem_singleton.mpr rfl)).trans ?_
    have h : gd.siIdx y ⟨List.idxOf (0 : Fin 2) gd.startIndexMap, List.idxOf_lt_length_iff.2 (List.mem_singleton.mpr rfl)⟩
        = (ix3 (y 0) (y 1) (0 : Fin 1) : S32x128x1.Idx) := by
      funext b; refine Fin.ext ?_
      match b with
      | ⟨0, _⟩ => rfl
      | ⟨1, _⟩ => rfl
      | ⟨2, _⟩ => rfl
    exact congrArg (fun k => min (idx k).toInt.toNat 199999) h
  | ⟨1, _⟩ =>
    unfold GatherDims.start
    refine (congrArg (· + gd.offCoord y (1 : Fin 2)) (dif_neg (show (1 : Fin 2) ∉ gd.startIndexMap by decide))).trans ?_
    exact Nat.zero_add _

/-- A row number in range is not below zero, so the reference does not wrap it. -/
theorem pick_word (v : BitVec 32) (h : v.toNat < 200000) :
    min (if IntOp.cmpi .slt v 0#32 = 1#1 then IntOp.addi v 200000#32 else v).toInt.toNat 199999 = v.toNat % 200000 := by
  have h0 : v.slt 0#32 = false := by
    rw [BitVec.slt_eq_decide, decide_eq_false_iff_not]
    simp only [BitVec.toInt_eq_toNat_cond, BitVec.toNat_ofNat, Nat.reducePow, Nat.reduceMod]
    omega
  have hc : IntOp.cmpi .slt v 0#32 ≠ 1#1 := by
    show BitVec.ofBool (v.slt 0#32) ≠ 1#1
    rw [h0]; decide
  rw [if_neg hc, Nat.mod_eq_of_lt h, BitVec.toInt_eq_toNat_cond]
  simp only [Nat.reducePow]
  omega

end Read

theorem algebraic : Cert.algebraic_GatherIdeal_GatherReferenceIdeal := by
  intro m g m' g' hpre hagree
  have hin := inRange_of_pre (F := Ideal) m hpre
  refine ⟨fun c => gathered m c,
    θ_run_mono (run_main (F := Ideal) m g hin) fun r h c => ⟨(h.1 c).2.2, (h.1 c).1, (h.1 c).2.1⟩,
    θ_run_mono (Cert.GatherReferenceIdeal.Value.run m' g') fun r h c => ⟨(h c).1.trans ?_, (h c).2⟩⟩
  rw [(hagree c).1, (hagree c).2]
  funext y
  refine (takeRows_apply _ _ y).trans ?_
  refine congrArg (table m c) (funext fun a => Fin.ext ?_)
  match a with
  | ⟨0, _⟩ =>
    refine Eq.trans ?_ (pick_word (m (iLoc c) (ix2 (y 0) (y 1) : Cert.GatherIdeal.S32x128.Idx)) (hin c _))
    refine congrArg (fun k : Cert.GatherIdeal.S32x128.Idx => min (if IntOp.cmpi .slt (m (iLoc c) k) 0#32 = 1#1 then IntOp.addi (m (iLoc c) k) 200000#32 else m (iLoc c) k).toInt.toNat 199999) (funext fun b => Fin.ext ?_)
    match b with
    | ⟨0, _⟩ => rfl
    | ⟨1, _⟩ => rfl
  | ⟨1, _⟩ => rfl

end Cert.Proof.Gather

end
-- ==== Proof.KernelReduce.lean ====
/-
  The sampler's first region, `_reduce_candidates` (pipeline 0 of @main): its body run by the executor, its proof
  data at an entry valuation `V`, and its segment over the thread state "every unscoped buffer at `V c`", left at
  any valuation that agrees with `V` off the two results and has them at what the pipeline writes back.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Tactic

@[expose] public section

noncomputable section

namespace Cert.Proof.Sampler

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole program: a copy of the pipeline library's algebra for each of the two regions,
    beside the counters of the transfers' invariants. -/
abbrev UU : Type := IProdConst (Fin 2) (UR sig nD τ) × Counters

local notation "𝕄" => MT nD τ sig Unit (Elt F) ℕ UU ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A proof data for a pipeline that an entry does not run: anything. -/
def anyDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

abbrev 𝒱₀ : Variants := Variants.none
/-- No core owes another anything: no level is assigned. -/
abbrev L : GSem nD τ sig → Finset Unit := fun _ => ∅
abbrev lv : GSem nD τ sig → Unit → ℕ := fun _ _ => 0

/-! ## The body -/

/-- What the body leaves in the two results' buffers, over the three operands', with the run that leaves it. -/
noncomputable def reduceRun (c : Dev nD) (M0 : Memref sig .tc .vmem S32x128x128 .f32) (h0 : M0.IsWhole)
    (M1 : Memref sig .tc .vmem S32x128 .i32) (h1 : M1.IsWhole) (M2 : Memref sig .tc .vmem S32x1 .f32) (h2 : M2.IsWhole)
    (M3 : Memref sig .tc .vmem S32x1 .i32) (h3 : M3.IsWhole) (M4 : Memref sig .tc .vmem S32x1 .i32) (h4 : M4.IsWhole)
    (f0 : Bf (F := F) c M0) (f1 : Bf (F := F) c M1) (f2 : Bf (F := F) c M2) :
    { W : Bf (F := F) c M3 × Bf (F := F) c M4 // ∀ (f3 : Bf (F := F) c M3) (f4 : Bf (F := F) c M4) (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 W.1 ∗ pt c M4 W.2) -∗ Q ⟨⟩))
          ⊢ wp frame (wpE (defs₀ (F := F)) Variants.none c none) E (cc0__reduce_kernel M0 h0 M1 h1 M2 h2 M3 h3 M4 h4) Q } := by
  refine ⟨⟨?_, ?_⟩, fun f3 f4 E Q => ?run⟩
  case run =>
    simp only [cc0__reduce_kernel_eq_skeleton]; unfold cc0__reduce_kernel_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-! ## The proof data -/

variable (V : (c : Dev nD) → (b : Ref sig .tc) → Buf (Elt F) ((c : Thread nD τ).loc b))

/-- The operands' blocks as the fetches stage them. -/
abbrev stg0_0 (c : Dev nD) : (cfg0.win 0).block.Idx → Elt F (cfg0.win 0).elt := ((cfg0.win 0).blk t0_0).view.read (Elt F) (V c main_v0)
abbrev stg0_1 (c : Dev nD) : (cfg0.win 1).block.Idx → Elt F (cfg0.win 1).elt := ((cfg0.win 1).blk t0_0).view.read (Elt F) (V c main_c)
abbrev stg0_2 (c : Dev nD) : (cfg0.win 2).block.Idx → Elt F (cfg0.win 2).elt := ((cfg0.win 2).blk t0_0).view.read (Elt F) (V c main_cst)

/-- The run at the staged operands. -/
abbrev K0 (c : Dev nD) := reduceRun (F := F) c (win0_0.stage 0) (hstage0_0 0) (win0_1.stage 0) (hstage0_1 0) (win0_2.stage 0) (hstage0_2 0)
  (win0_3.stage 0) (hstage0_3 0) (win0_4.stage 0) (hstage0_4 0) (stg0_0 V c) (stg0_1 V c) (stg0_2 V c)

/-- Between the region's ends: the scoped buffers it does not stage. -/
abbrev Φ0 (c : Dev nD) : sProp 𝕄 := Pipeline.scopedRest (Ix := Unit) (Name := ℕ) (U := UU) (Lvl := ℕ) (Val := Elt F) spec0 c

/-- The proof data of the region, entered from `V`. -/
def dat0 (c : Dev nD) : Dat τ (Elt F) Unit ℕ UU ℕ cfg0 c where
  A w := V c (Pipeline.arrRef spec0 w)
  after w _ := match w with
    | ⟨0, _⟩ => stg0_0 V c
    | ⟨1, _⟩ => stg0_1 V c
    | ⟨2, _⟩ => stg0_2 V c
    | ⟨3, _⟩ => (K0 V c).1.1
    | ⟨4, _⟩ => (K0 V c).1.2
  Φ _ := Φ0 c
  q _ := fullShare
  owed _ := 0

variable (adm : (p : Fin 2) → (pcfgs (F := F) p).Adm)

/-- The ticket's family: this entry's at pipeline 0, anything at the other. -/
def pdats0 : (p : Fin 2) → (c : Dev nD) → Dat τ (Elt F) Unit ℕ UU ℕ (Pipeline.pin (pcfgs (F := F)) adm p) c
  | ⟨0, _⟩ => fun c => dat0 V c
  | ⟨1, _⟩ => fun c => anyDat c

theorem before0_0 (c : Dev nD) (d : (cfg0.win 0).block.Idx → Elt F (cfg0.win 0).elt) : (dat0 V c).before 0 t0_0 d = stg0_0 V c := by
  unfold Dat.before; rw [if_pos (fetch0_0 t0_0)]; rfl
theorem before0_1 (c : Dev nD) (d : (cfg0.win 1).block.Idx → Elt F (cfg0.win 1).elt) : (dat0 V c).before 1 t0_0 d = stg0_1 V c := by
  unfold Dat.before; rw [if_pos (fetch0_1 t0_0)]; rfl
theorem before0_2 (c : Dev nD) (d : (cfg0.win 2).block.Idx → Elt F (cfg0.win 2).elt) : (dat0 V c).before 2 t0_0 d = stg0_2 V c := by
  unfold Dat.before; rw [if_pos (fetch0_2 t0_0)]; rfl

theorem body0 (c : Dev nD) : BodyObligation (dat0 V c) (defs₀ (F := F)) 𝒱₀ () Set.univ := fun t => by
  obtain rfl := fin_N0 t
  rw [bigSep_W0, bigSep_W0]
  simp only [owns_whole_eq]
  rw [show (dat0 V c).Φ t0_0.castSucc = Φ0 c from rfl, show (dat0 V c).Φ t0_0.succ = Φ0 c from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩⟩
  rw [before0_0] at hf0
  rw [before0_1] at hf1
  rw [before0_2] at hf2
  subst hf0 hf1 hf2
  iapply ((K0 V c).2 f3 f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  iexists _; isplitr; swap; (· iexact H4); ipureintro; dsimp only [dat0]

/-! ## The region over the thread state -/

/-- The two results' arrays after the region, as the pipeline writes them back. -/
def col0 (c : Dev nD) : Buf (Elt F) ((c : Thread nD τ).loc main_v1_0) := (dat0 V c).arrAt 3 cfg0.N
def ok0 (c : Dev nD) : Buf (Elt F) ((c : Thread nD τ).loc main_v1_1) := (dat0 V c).arrAt 4 cfg0.N

variable (Vp : (c : Dev nD) → (b : Ref sig .tc) → Buf (Elt F) ((c : Thread nD τ).loc b))

set_option backward.isDefEq.respectTransparency.types false in
/-- The region, from every unscoped buffer at `V` to every unscoped buffer at `Vp`. -/
def reg0 (R : Dev nD → sProp 𝕄) (hcol : ∀ c, Vp c main_v1_0 = col0 V c) (hok : ∀ c, Vp c main_v1_1 = ok0 V c)
    (hne : ∀ c (b : Ref sig .tc), b ≠ main_v1_0 → b ≠ main_v1_1 → Vp c b = V c b) :
    Pipeline.RegionSeg (pcfgs (F := F)) adm (pdats0 V adm) () defs₀ 𝒱₀ L lv 0 where
  win := launch0.win.to₀
  block_pos := launch0.block_pos
  stage_whole := launch0.stage_whole
  K := PEmpty
  osem k := k.elim
  ho := Pipeline.OwnSemFacts.none _
  hbody c := (body0 V c).loose
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (pdats0 V adm) launch0.win launch0.arr_whole c
      ((pdats0 V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact HR
  hin c := by
    rw [show (pdats0 V adm 0 c).Φ 0 = Φ0 c from rfl]
    iintro ⟨-, -, Hr⟩; iexact Hr
  hout c := by
    rw [Pipeline.ownSems0_none, show (pdats0 V adm 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats0 V adm) ((pdats0 V adm 0 c).share_full fun _ => rfl) (V c) (Vp c) ((pdats0 V adm 0 c).arrAt · cfg0.N)
      (fun w => by
        fin_cases w
        · exact ((pdats0 V adm 0 c).arrAt_in 0 rfl _).trans (hne c main_v0 (by decide) (by decide)).symm
        · exact ((pdats0 V adm 0 c).arrAt_in 1 rfl _).trans (hne c main_c (by decide) (by decide)).symm
        · exact ((pdats0 V adm 0 c).arrAt_in 2 rfl _).trans (hne c main_cst (by decide) (by decide)).symm
        · exact (hcol c).symm
        · exact (hok c).symm)
      (fun b hb => hne c b (fun h => hb (h ▸ Finset.mem_image.mpr ⟨3, Finset.mem_univ _, rfl⟩))
        (fun h => hb (h ▸ Finset.mem_image.mpr ⟨4, Finset.mem_univ _, rfl⟩)))
    iintro ⟨Ha, HO, -, Hrest, HR⟩
    imodintro
    isplitl [Ha Hrest]
    · iapply hjoin; isplitl [Ha]; · iexact Ha
      iexact Hrest
    isplitl [HR]; · iexact HR
    unfold Pipeline.Dat.owesAt Pipeline.owesWithin
    icases HO with ⟨%W, -, HO⟩; iexists W; iexact HO

end Cert.Proof.Sampler

end
-- ==== Proof.KernelPass.lean ====
/-
  The sampler's second region, `_full_pass` (pipeline 1 of @main, launched from an arm of the host's branch): the body
  run in its three cases (the first point, a point between, the last point), the running best that the two scratch
  buffers hold from point to point, the proof data at an entry valuation `V`, and the region's segment.
-/
module

public import proofs.«01_k».proof.Proof.KernelReduce
public import Idealize.ShloMosaic.Lib.Pipeline.Value
public import Idealize.ShloMosaic.Lib.VecWindow

@[expose] public section

noncomputable section

namespace Cert.Proof.Sampler

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body, case by case -/

/-- The conditions of the body's first two branches, as the kernel computes them (the third is `k1_cond3`). -/
abbrev cnd1 (i : grid1.Coords) : BitVec 1 :=
  Scalar.cmpi .ne (Scalar.extui (Scalar.cmpi .eq (BitVec.ofNat 32 (i 0).val) 0#32) : BitVec 32) 0#32
abbrev cnd2 (i : grid1.Coords) : BitVec 1 :=
  Scalar.cmpi .ne (Scalar.extui (Scalar.cmpi .ne (BitVec.ofNat 32 (i 0).val) 0#32) : BitVec 32) 0#32

/-- What it is to own a whole memref's contents. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

section Names
variable (i : grid1.Coords)

/-! The random words of the block at point `i`, as the kernel's five printed parts compute them one from another. -/

def w88 : IVec S32x16000 32 := k1_pay27 (k1_pay15 i) (k1_pay16 i) 466689008#32
def w89 : IVec S32x16000 32 := k1_pay28 (k1_pay15 i) (k1_pay16 i) 466689008#32
def w130 : IVec S32x16000 32 := k1_pay38 (w88 i) (w89 i)
def w132 : IVec S32x16000 32 := k1_pay39 (w88 i) (w89 i)
def w134 : IVec S32x16000 32 := k1_pay40 (w88 i) (w89 i)
def w177 : IVec S32x16000 32 := k1_pay51 (w130 i) (w132 i) (w134 i)
def w179 : IVec S32x16000 32 := k1_pay52 (w130 i) (w132 i) (w134 i)

/-- The block's best value of each row, and the least column of the array that has it. -/
def blkMax (x : Vec F S32x16000 .f32) : FVec F S32x1 .f32 := k1_pay54 (w177 i) (w179 i) 0#32 x
def blkArg (x : Vec F S32x16000 .f32) : IVec S32x1 32 :=
  k1_pay55 (BitVec.ofNat 32 (i 0).val) (iota .tc S32x16000 32 [1] iota_S32x16000_d1_w32) (w177 i) (w179 i) 0#32 x

/-- What the scratch holds after the first point, and after a later point that found `s`. -/
def stepA (x : Vec F S32x16000 .f32) : Vec F S32x1 .f32 × Vec F S32x1 .i32 := (k1_pay1 (blkMax i x), k1_pay2 (blkArg i x))
def stepB (x : Vec F S32x16000 .f32) (s : Vec F S32x1 .f32 × Vec F S32x1 .i32) : Vec F S32x1 .f32 × Vec F S32x1 .i32 :=
  (k1_pay4 (blkMax i x) s.1 s.1, k1_pay5 (blkMax i x) (blkArg i x) s.1 s.2)

end Names

section Runs
variable (c : Dev nD) (i : grid1.Coords) (M1 : Memref sig .tc .vmem S32x16000 .f32) (h1 : M1.IsWhole)
    (M2 : Memref sig .tc .vmem S32x1 .f32) (h2 : M2.IsWhole) (M3 : Memref sig .tc .vmem S32x1 .i32) (h3 : M3.IsWhole)
    (M4 : Memref sig .tc .vmem S32x1 .f32) (h4 : M4.IsWhole) (M5 : Memref sig .tc .vmem S32x1 .i32) (h5 : M5.IsWhole)

/-- The first point: the block's best is stored in the scratch, whatever it held. -/
noncomputable def runA (c1 : cnd1 i = 1#1) (c2 : ¬ cnd2 i = 1#1) (c3 : ¬ k1_cond3 i = 1#1) (f1 : Bf (F := F) c M1) :
    { W : Bf (F := F) c M4 × Bf (F := F) c M5 // ∀ (f4 : Bf (F := F) c M4) (f5 : Bf (F := F) c M5) (E : Set ℕ) (Q : PUnit → sProp 𝕄),
        iprop(pt c M1 f1 ∗ pt c M4 f4 ∗ pt c M5 f5 ∗ (iprop(pt c M1 f1 ∗ pt c M4 W.1 ∗ pt c M5 W.2) -∗ Q ⟨⟩))
          ⊢ wp frame (wpE (defs₀ (F := F)) Variants.none c none) E (cc1__full_pass_kernel i M1 h1 M2 h2 M3 h3 M4 h4 M5 h5) Q } := by
  refine ⟨⟨?_, ?_⟩, fun f4 f5 E Q => ?run⟩
  case run =>
    simp only [cc1__full_pass_kernel_eq_skeleton]; unfold cc1__full_pass_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    iintro ⟨H1, H4, H5, Hk⟩
    sl_exec! (disch := first | exact c1 | exact c2 | exact c3)
    sl_step
    iapply Hk
    isplitl [H1]; · iexact H1
    isplitl [H4]; · iexact H4
    iexact H5

/-- A later point but the last: the best so far is raised to the block's where the block's is greater. -/
noncomputable def runB (c1 : ¬ cnd1 i = 1#1) (c2 : cnd2 i = 1#1) (c3 : ¬ k1_cond3 i = 1#1) (f1 : Bf (F := F) c M1)
    (f4 : Bf (F := F) c M4) (f5 : Bf (F := F) c M5) :
    { W : Bf (F := F) c M4 × Bf (F := F) c M5 // ∀ (E : Set ℕ) (Q : PUnit → sProp 𝕄),
        iprop(pt c M1 f1 ∗ pt c M4 f4 ∗ pt c M5 f5 ∗ (iprop(pt c M1 f1 ∗ pt c M4 W.1 ∗ pt c M5 W.2) -∗ Q ⟨⟩))
          ⊢ wp frame (wpE (defs₀ (F := F)) Variants.none c none) E (cc1__full_pass_kernel i M1 h1 M2 h2 M3 h3 M4 h4 M5 h5) Q } := by
  refine ⟨⟨?_, ?_⟩, fun E Q => ?run⟩
  case run =>
    simp only [cc1__full_pass_kernel_eq_skeleton]; unfold cc1__full_pass_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    iintro ⟨H1, H4, H5, Hk⟩
    sl_exec! (disch := first | exact c1 | exact c2 | exact c3)
    sl_step
    iapply Hk
    isplitl [H1]; · iexact H1
    isplitl [H4]; · iexact H4
    iexact H5

/-- The last point: as at a point between, then the best is copied out to the two results' buffers. -/
noncomputable def runC (c1 : ¬ cnd1 i = 1#1) (c2 : cnd2 i = 1#1) (c3 : k1_cond3 i = 1#1) (f1 : Bf (F := F) c M1)
    (f4 : Bf (F := F) c M4) (f5 : Bf (F := F) c M5) :
    { W : (Bf (F := F) c M4 × Bf (F := F) c M5) × (Bf (F := F) c M2 × Bf (F := F) c M3) // ∀ (f2 : Bf (F := F) c M2) (f3 : Bf (F := F) c M3)
        (E : Set ℕ) (Q : PUnit → sProp 𝕄),
        iprop(pt c M1 f1 ∗ pt c M2 f2 ∗ pt c M3 f3 ∗ pt c M4 f4 ∗ pt c M5 f5
            ∗ (iprop(pt c M1 f1 ∗ pt c M2 W.2.1 ∗ pt c M3 W.2.2 ∗ pt c M4 W.1.1 ∗ pt c M5 W.1.2) -∗ Q ⟨⟩))
          ⊢ wp frame (wpE (defs₀ (F := F)) Variants.none c none) E (cc1__full_pass_kernel i M1 h1 M2 h2 M3 h3 M4 h4 M5 h5) Q } := by
  refine ⟨⟨⟨?_, ?_⟩, ⟨?_, ?_⟩⟩, fun f2 f3 E Q => ?run⟩
  case run =>
    simp only [cc1__full_pass_kernel_eq_skeleton]; unfold cc1__full_pass_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    iintro ⟨H1, H2, H3, H4, H5, Hk⟩
    sl_exec! (disch := first | exact c1 | exact c2 | exact c3)
    sl_step
    iapply Hk
    isplitl [H1]; · iexact H1
    isplitl [H2]; · iexact H2
    isplitl [H3]; · iexact H3
    isplitl [H4]; · iexact H4
    iexact H5

theorem hz : (![0, 0] : Fin 2 → Nat) = fun _ => 0 := funext fun a => by fin_cases a <;> rfl

/-- A load of a whole memref through the rectangle of its sizes. -/
abbrev ldx (M : Memref sig .tc .vmem S32x16000 .f32) (f : Bf (F := F) c M) : Vec F S32x16000 .f32 :=
  M.view.readAt (Elt F) (Rect.unit (s := S32x16000) ![0, 0] S32x16000.size inb_S32x16000_S32x16000_0_0).toLoadRect f
abbrev lds {e : EltTy} (M : Memref sig .tc .vmem S32x1 e) (f : Bf (F := F) c M) : Vec F S32x1 e :=
  M.view.readAt (Elt F) (Rect.unit (s := S32x1) ![0, 0] S32x1.size inb_S32x1_S32x1_0_0).toLoadRect f
theorem ldx_eq (M : Memref sig .tc .vmem S32x16000 .f32) (f : Bf (F := F) c M) : ldx c M f = M.view.read (Elt F) f := by
  unfold ldx; rw [View.readAt_eq_ld, View.ld_unit_zero (S := S32x16000) hz]
theorem lds_eq {e : EltTy} (M : Memref sig .tc .vmem S32x1 e) (f : Bf (F := F) c M) : lds c M f = M.view.read (Elt F) f := by
  unfold lds; rw [View.readAt_eq_ld, View.ld_unit_zero (S := S32x1) hz]

/-- What a store of a payload through the rectangle of its sizes leaves to be read. -/
theorem rd_st {e : EltTy} (M : Memref sig .tc .vmem S32x1 e) (f : Bf (F := F) c M) (w : Vec F S32x1 e) :
    M.view.read (Elt F) (M.view.writes (Elt F) f [⟨Rect.unit (s := S32x1) ![0, 0] S32x1.size inb_S32x1_S32x1_0_0, w⟩]) = w :=
  View.read_writes_full M.view f inb_S32x1_S32x1_0_0 w []

variable (f1 : Bf (F := F) c M1) (f4 : Bf (F := F) c M4) (f5 : Bf (F := F) c M5)

theorem readA (c1 : cnd1 i = 1#1) (c2 : ¬ cnd2 i = 1#1) (c3 : ¬ k1_cond3 i = 1#1) :
    (M4.view.read (Elt F) (runA c i M1 h1 M2 h2 M3 h3 M4 h4 M5 h5 c1 c2 c3 f1).1.1,
      M5.view.read (Elt F) (runA c i M1 h1 M2 h2 M3 h3 M4 h4 M5 h5 c1 c2 c3 f1).1.2) = stepA i (M1.view.read (Elt F) f1) := by
  rw [← ldx_eq c M1 f1]
  refine Prod.ext ?_ ?_
  · dsimp only; unfold runA; dsimp only; sl_unfold_words
    refine (rd_st c M4 _ _).trans ?_
    dsimp only [stepA, stepB, blkMax, blkArg, w177, w179, w134, w132, w130, w89, w88]
  · dsimp only; unfold runA; dsimp only; sl_unfold_words
    refine (rd_st c M5 _ _).trans ?_
    dsimp only [stepA, stepB, blkMax, blkArg, w177, w179, w134, w132, w130, w89, w88]

theorem readB (c1 : ¬ cnd1 i = 1#1) (c2 : cnd2 i = 1#1) (c3 : ¬ k1_cond3 i = 1#1) :
    (M4.view.read (Elt F) (runB c i M1 h1 M2 h2 M3 h3 M4 h4 M5 h5 c1 c2 c3 f1 f4 f5).1.1,
      M5.view.read (Elt F) (runB c i M1 h1 M2 h2 M3 h3 M4 h4 M5 h5 c1 c2 c3 f1 f4 f5).1.2)
      = stepB i (M1.view.read (Elt F) f1) (M4.view.read (Elt F) f4, M5.view.read (Elt F) f5) := by
  rw [← ldx_eq c M1 f1, ← lds_eq c M4 f4, ← lds_eq c M5 f5]
  refine Prod.ext ?_ ?_
  · dsimp only; unfold runB; dsimp only; sl_unfold_words
    refine (rd_st c M4 _ _).trans ?_
    dsimp only [stepA, stepB, blkMax, blkArg, w177, w179, w134, w132, w130, w89, w88]
  · dsimp only; unfold runB; dsimp only; sl_unfold_words
    refine (rd_st c M5 _ _).trans ?_
    dsimp only [stepA, stepB, blkMax, blkArg, w177, w179, w134, w132, w130, w89, w88]

theorem readC (c1 : ¬ cnd1 i = 1#1) (c2 : cnd2 i = 1#1) (c3 : k1_cond3 i = 1#1) :
    (M4.view.read (Elt F) (runC c i M1 h1 M2 h2 M3 h3 M4 h4 M5 h5 c1 c2 c3 f1 f4 f5).1.1.1,
      M5.view.read (Elt F) (runC c i M1 h1 M2 h2 M3 h3 M4 h4 M5 h5 c1 c2 c3 f1 f4 f5).1.1.2)
      = stepB i (M1.view.read (Elt F) f1) (M4.view.read (Elt F) f4, M5.view.read (Elt F) f5) := by
  rw [← ldx_eq c M1 f1, ← lds_eq c M4 f4, ← lds_eq c M5 f5]
  refine Prod.ext ?_ ?_
  · dsimp only; unfold runC; dsimp only; sl_unfold_words
    refine (rd_st c M4 _ _).trans ?_
    dsimp only [stepA, stepB, blkMax, blkArg, w177, w179, w134, w132, w130, w89, w88]
  · dsimp only; unfold runC; dsimp only; sl_unfold_words
    refine (rd_st c M5 _ _).trans ?_
    dsimp only [stepA, stepB, blkMax, blkArg, w177, w179, w134, w132, w130, w89, w88]

theorem readC' (c1 : ¬ cnd1 i = 1#1) (c2 : cnd2 i = 1#1) (c3 : k1_cond3 i = 1#1) :
    (M2.view.read (Elt F) (runC c i M1 h1 M2 h2 M3 h3 M4 h4 M5 h5 c1 c2 c3 f1 f4 f5).1.2.1,
      M3.view.read (Elt F) (runC c i M1 h1 M2 h2 M3 h3 M4 h4 M5 h5 c1 c2 c3 f1 f4 f5).1.2.2)
      = stepB i (M1.view.read (Elt F) f1) (M4.view.read (Elt F) f4, M5.view.read (Elt F) f5) := by
  rw [← ldx_eq c M1 f1, ← lds_eq c M4 f4, ← lds_eq c M5 f5]
  refine Prod.ext ?_ ?_
  · dsimp only; unfold runC; dsimp only; sl_unfold_words
    refine (rd_st c M2 _ _).trans ?_
    refine (View.readCov_unit_zero (S := S32x1) M4.view hz inb_S32x1_S32x1_0_0 _).trans ?_
    dsimp only [stepA, stepB, blkMax, blkArg, w177, w179, w134, w132, w130, w89, w88]
  · dsimp only; unfold runC; dsimp only; sl_unfold_words
    refine (rd_st c M3 _ _).trans ?_
    refine (View.readCov_unit_zero (S := S32x1) M5.view hz inb_S32x1_S32x1_0_0 _).trans ?_
    dsimp only [stepA, stepB, blkMax, blkArg, w177, w179, w134, w132, w130, w89, w88]

end Runs

/-! ## The running best and the proof data -/

theorem cnd1_iff : ∀ t : Fin grid1.N, cnd1 (grid1.coords t) = 1#1 ↔ t.val = 0 := by decide +kernel
theorem cnd2_iff : ∀ t : Fin grid1.N, cnd2 (grid1.coords t) = 1#1 ↔ t.val ≠ 0 := by decide +kernel
theorem cnd3_iff : ∀ t : Fin grid1.N, k1_cond3 (grid1.coords t) = 1#1 ↔ t.val = 49 := by decide +kernel

section Data
variable (V : (c : Dev nD) → (b : Ref sig .tc) → Buf (Elt F) ((c : Thread nD τ).loc b))

/-- The operand's block at point `t` as the fetch stages it. -/
def xb (c : Dev nD) (t : Fin cfg1.N) : Vec F S32x16000 .f32 := ((cfg1.win 0).blk t).view.read (Elt F) (V c main_case0b0_v10)

/-- What the two scratch buffers hold before point `n` (from the second point on). -/
def best (c : Dev nD) : ℕ → Vec F S32x1 .f32 × Vec F S32x1 .i32
  | 0 => (fun _ => FloatOps.ofBits .f32 0#32, fun _ => 0#32)
  | n + 1 => if h : n < cfg1.N then
      (if n = 0 then stepA (grid1.coords ⟨n, h⟩) (xb V c ⟨n, h⟩) else stepB (grid1.coords ⟨n, h⟩) (xb V c ⟨n, h⟩) (best c n))
    else best c n

theorem best_zero (c : Dev nD) (t : Fin cfg1.N) (h : t.val = 0) : best V c (t.val + 1) = stepA (grid1.coords t) (xb V c t) := by
  rw [best, dif_pos t.isLt, if_pos h]
theorem best_succ (c : Dev nD) (t : Fin cfg1.N) (h : t.val ≠ 0) :
    best V c (t.val + 1) = stepB (grid1.coords t) (xb V c t) (best V c t.val) := by
  rw [best, dif_pos t.isLt, if_neg h]

/-- The other region's staging buffers, held at something. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- The invariant before point `n`: the two scratch buffers at the best so far (before the first point, at
    something), and the other region's staging buffers. -/
def Φ1 (c : Dev nD) (n : ℕ) : sProp 𝕄 :=
  iprop(rest1 c ∗ ∃ f4 : Bf (F := F) c (Memref.whole cc1_scratch0), ∃ f5 : Bf (F := F) c (Memref.whole cc1_scratch1),
    ⌜n ≠ 0 → ((Memref.whole cc1_scratch0).view.read (Elt F) f4, (Memref.whole cc1_scratch1).view.read (Elt F) f5) = best V c n⌝
      ∗ pt c (Memref.whole cc1_scratch0) f4 ∗ pt c (Memref.whole cc1_scratch1) f5)

/-- The proof data of the region, entered from `V`. -/
def dat1 (c : Dev nD) : Dat τ (Elt F) Unit ℕ UU ℕ cfg1 c where
  A w := V c (Pipeline.arrRef spec1 w)
  after w t := match w with
    | ⟨0, _⟩ => xb V c t
    | ⟨1, _⟩ => (best V c (t.val + 1)).1
    | ⟨2, _⟩ => (best V c (t.val + 1)).2
  Φ t := Φ1 V c t.val
  q _ := fullShare
  owed _ := 0

variable (adm : (p : Fin 2) → (pcfgs (F := F) p).Adm)

/-- The ticket's family: this entry's at pipeline 1, anything at the other. -/
def pdats1 : (p : Fin 2) → (c : Dev nD) → Dat τ (Elt F) Unit ℕ UU ℕ (Pipeline.pin (pcfgs (F := F)) adm p) c
  | ⟨0, _⟩ => fun c => anyDat c
  | ⟨1, _⟩ => fun c => dat1 V c

theorem before1_0 (c : Dev nD) (t : Fin cfg1.N) (d : (cfg1.win 0).block.Idx → Elt F (cfg1.win 0).elt) : (dat1 V c).before 0 t d = xb V c t := by
  unfold Dat.before; rw [if_pos (fetch1_0 t)]; rfl

theorem flush1_1_false (t : Fin cfg1.N) (h : t.val ≠ 49) : (cfg1.win 1).flush t = false := by
  have hN : t.val < 50 := N_1 ▸ t.isLt
  have := (flush1_1 t).not.mpr (by omega)
  simpa using this
theorem flush1_2_false (t : Fin cfg1.N) (h : t.val ≠ 49) : (cfg1.win 2).flush t = false := by
  have hN : t.val < 50 := N_1 ▸ t.isLt
  have := (flush1_2 t).not.mpr (by omega)
  simpa using this

theorem body1 (c : Dev nD) : BodyObligation (dat1 V c) (defs₀ (F := F)) 𝒱₀ () Set.univ := fun t => by
  rw [bigSep_W1, bigSep_W1]
  simp only [owns_pt c (stage1_0 _) (hstage1_0 _), owns_pt c (stage1_1 _) (hstage1_1 _), owns_pt c (stage1_2 _) (hstage1_2 _)]
  rw [show (dat1 V c).Φ t.castSucc = Φ1 V c t.val from rfl, show (dat1 V c).Φ t.succ = Φ1 V c (t.val + 1) from rfl,
    show (dat1 V c).owesAt () t.succ = (dat1 V c).owesAt () t.castSucc from rfl]
  have hidle : ∀ w : Fin 3, w ≠ 0 → idle1 w (grid1.coords t) = !decide (t.val = 49) := by
    have h3 : (k1_cond3 (grid1.coords t) == 1#1) = decide (t.val = 49) := by
      rw [Bool.eq_iff_iff]; simpa using cnd3_iff t
    intro w hw
    match w, hw with
    | ⟨0, _⟩, hw => exact absurd rfl hw
    | ⟨1, _⟩, _ => show (!(k1_cond3 (grid1.coords t) == 1#1)) = _; rw [h3]
    | ⟨2, _⟩, _ => show (!(k1_cond3 (grid1.coords t) == 1#1)) = _; rw [h3]
  have hi1 := hidle 1 (by decide)
  have hi2 := hidle 2 (by decide)
  rw [show Φ1 V c t.val = iprop(rest1 c ∗ ∃ f4 : Bf (F := F) c (Memref.whole cc1_scratch0), ∃ f5 : Bf (F := F) c (Memref.whole cc1_scratch1),
    ⌜t.val ≠ 0 → ((Memref.whole cc1_scratch0).view.read (Elt F) f4, (Memref.whole cc1_scratch1).view.read (Elt F) f5) = best V c t.val⌝
      ∗ pt c (Memref.whole cc1_scratch0) f4 ∗ pt c (Memref.whole cc1_scratch1) f5) from rfl]
  by_cases h49 : t.val = 49
  · have c1 : ¬ cnd1 (grid1.coords t) = 1#1 := (cnd1_iff t).not.mpr (by omega)
    have c2 : cnd2 (grid1.coords t) = 1#1 := (cnd2_iff t).mpr (by omega)
    have c3 : k1_cond3 (grid1.coords t) = 1#1 := (cnd3_iff t).mpr h49
    rw [decide_eq_true h49, Bool.not_true] at hi1 hi2
    simp only [hi1, hi2]
    iintro ⟨⟨Hr, %f4, %f5, %hb, H4, H5⟩, Howes, ⟨%d1, %f1, %hf1, H1⟩, ⟨%d2, %f2, -, H2⟩, ⟨%d3, %f3, -, H3⟩⟩
    rw [before1_0] at hf1
    have e1 := (readC c (grid1.coords t) (stage1_0 (cfg1.slots t 0)) (hstage1_0 _) (stage1_1 (cfg1.slots t 1)) (hstage1_1 _) (stage1_2 (cfg1.slots t 2)) (hstage1_2 _)
      (Memref.whole cc1_scratch0) (Memref.isWhole_whole _) (Memref.whole cc1_scratch1) (Memref.isWhole_whole _) f1 f4 f5 c1 c2 c3).trans
      ((congrArg₂ (stepB _) hf1 (hb (by omega))).trans (best_succ V c t (by omega)).symm)
    have e2 := (readC' c (grid1.coords t) (stage1_0 (cfg1.slots t 0)) (hstage1_0 _) (stage1_1 (cfg1.slots t 1)) (hstage1_1 _) (stage1_2 (cfg1.slots t 2)) (hstage1_2 _)
      (Memref.whole cc1_scratch0) (Memref.isWhole_whole _) (Memref.whole cc1_scratch1) (Memref.isWhole_whole _) f1 f4 f5 c1 c2 c3).trans
      ((congrArg₂ (stepB _) hf1 (hb (by omega))).trans (best_succ V c t (by omega)).symm)
    iapply ((runC c (grid1.coords t) (stage1_0 (cfg1.slots t 0)) (hstage1_0 _) (stage1_1 (cfg1.slots t 1)) (hstage1_1 _) (stage1_2 (cfg1.slots t 2)) (hstage1_2 _)
      (Memref.whole cc1_scratch0) (Memref.isWhole_whole _) (Memref.whole cc1_scratch1) (Memref.isWhole_whole _) c1 c2 c3 f1 f4 f5).2 f2 f3 Set.univ _)
    isplitl [H1]; · iexact H1
    isplitl [H2]; · iexact H2
    isplitl [H3]; · iexact H3
    isplitl [H4]; · iexact H4
    isplitl [H5]; · iexact H5
    iintro ⟨H1, H2, H3, H4, H5⟩
    isplitl [Hr H4 H5]
    · unfold Φ1
      isplitl [Hr]; · iexact Hr
      iexists _; iexists _
      isplitr; swap
      · isplitl [H4]; · iexact H4
        iexact H5
      ipureintro
      intro _
      exact e1
    isplitl [Howes]; · iexact Howes
    isplitl [H1]; · iexists f1; isplitr; swap; (· iexact H1); ipureintro; exact hf1
    isplitl [H2]; · iexists _; isplitr; swap; (· iexact H2); ipureintro; exact congrArg Prod.fst e2
    iexists _; isplitr; swap; (· iexact H3); ipureintro; exact congrArg Prod.snd e2
  · have c3 : ¬ k1_cond3 (grid1.coords t) = 1#1 := (cnd3_iff t).not.mpr h49
    rw [decide_eq_false h49, Bool.not_false] at hi1 hi2
    simp only [hi1, hi2, flush1_1_false t h49, flush1_2_false t h49]
    iintro ⟨⟨Hr, %f4, %f5, %hb, H4, H5⟩, Howes, ⟨%d1, %f1, %hf1, H1⟩, H2, H3⟩
    rw [before1_0] at hf1
    by_cases h0 : t.val = 0
    · have c1 : cnd1 (grid1.coords t) = 1#1 := (cnd1_iff t).mpr h0
      have c2 : ¬ cnd2 (grid1.coords t) = 1#1 := (cnd2_iff t).not.mpr (by omega)
      have e1 := (readA c (grid1.coords t) (stage1_0 (cfg1.slots t 0)) (hstage1_0 _) (stage1_1 (cfg1.slots t 1)) (hstage1_1 _) (stage1_2 (cfg1.slots t 2)) (hstage1_2 _)
        (Memref.whole cc1_scratch0) (Memref.isWhole_whole _) (Memref.whole cc1_scratch1) (Memref.isWhole_whole _) f1 c1 c2 c3).trans
        ((congrArg (stepA _) hf1).trans (best_zero V c t h0).symm)
      iapply ((runA c (grid1.coords t) (stage1_0 (cfg1.slots t 0)) (hstage1_0 _) (stage1_1 (cfg1.slots t 1)) (hstage1_1 _) (stage1_2 (cfg1.slots t 2)) (hstage1_2 _)
        (Memref.whole cc1_scratch0) (Memref.isWhole_whole _) (Memref.whole cc1_scratch1) (Memref.isWhole_whole _) c1 c2 c3 f1).2 f4 f5 Set.univ _)
      isplitl [H1]; · iexact H1
      isplitl [H4]; · iexact H4
      isplitl [H5]; · iexact H5
      iintro ⟨H1, H4, H5⟩
      isplitl [Hr H4 H5]
      · unfold Φ1
        isplitl [Hr]; · iexact Hr
        iexists _; iexists _
        isplitr; swap
        · isplitl [H4]; · iexact H4
          iexact H5
        ipureintro
        intro _
        exact e1
      isplitl [Howes]; · iexact Howes
      isplitl [H1]; · iexists f1; isplitr; swap; (· iexact H1); ipureintro; exact hf1
      isplitl [H2]; · iexact H2
      iexact H3
    · have c1 : ¬ cnd1 (grid1.coords t) = 1#1 := (cnd1_iff t).not.mpr h0
      have c2 : cnd2 (grid1.coords t) = 1#1 := (cnd2_iff t).mpr h0
      have e1 := (readB c (grid1.coords t) (stage1_0 (cfg1.slots t 0)) (hstage1_0 _) (stage1_1 (cfg1.slots t 1)) (hstage1_1 _) (stage1_2 (cfg1.slots t 2)) (hstage1_2 _)
        (Memref.whole cc1_scratch0) (Memref.isWhole_whole _) (Memref.whole cc1_scratch1) (Memref.isWhole_whole _) f1 f4 f5 c1 c2 c3).trans
        ((congrArg₂ (stepB _) hf1 (hb h0)).trans (best_succ V c t h0).symm)
      iapply ((runB c (grid1.coords t) (stage1_0 (cfg1.slots t 0)) (hstage1_0 _) (stage1_1 (cfg1.slots t 1)) (hstage1_1 _) (stage1_2 (cfg1.slots t 2)) (hstage1_2 _)
        (Memref.whole cc1_scratch0) (Memref.isWhole_whole _) (Memref.whole cc1_scratch1) (Memref.isWhole_whole _) c1 c2 c3 f1 f4 f5).2 Set.univ _)
      isplitl [H1]; · iexact H1
      isplitl [H4]; · iexact H4
      isplitl [H5]; · iexact H5
      iintro ⟨H1, H4, H5⟩
      isplitl [Hr H4 H5]
      · unfold Φ1
        isplitl [Hr]; · iexact Hr
        iexists _; iexists _
        isplitr; swap
        · isplitl [H4]; · iexact H4
          iexact H5
        ipureintro
        intro _
        exact e1
      isplitl [Howes]; · iexact Howes
      isplitl [H1]; · iexists f1; isplitr; swap; (· iexact H1); ipureintro; exact hf1
      isplitl [H2]; · iexact H2
      iexact H3

/-- The two results' arrays after the region, as the pipeline writes them back. -/
def val1 (c : Dev nD) : Buf (Elt F) ((c : Thread nD τ).loc main_case0b0_v11_0) := (dat1 V c).arrAt 1 cfg1.N
def arg1 (c : Dev nD) : Buf (Elt F) ((c : Thread nD τ).loc main_case0b0_v11_1) := (dat1 V c).arrAt 2 cfg1.N

/-- The last point. -/
def tlast : Fin cfg1.N := ⟨49, by rw [show cfg1.N = 50 from N_1]; decide⟩

/-- The one write-back, at the last point, covers the columns' array: it ends at the best column of every row. -/
theorem arg1_eq (c : Dev nD) : arg1 V c = (best V c 50).2 :=
  (dat1 V c).arrAt_eq_of_cover 2 (best V c 50).2
    (fun t hf => by
      have hN : t.val < 50 := N_1 ▸ t.isLt
      have h3 : t.val = 49 := by have := (flush1_2 t).mp hf; omega
      obtain rfl : t = tlast := Fin.ext h3
      show (cfg1.win 2).cut (grid1.coords tlast) (best V c (49 + 1)).2 = _
      have hz' : (fun a => win1_2.index tlast a * main_case0b0_v11_1.ty.shape.size a) = fun _ => 0 := funext fun a => by fin_cases a <;> decide
      exact (Memref.read_access_unit_zero (Elt F) main_case0b0_v11_1 hz' (fun a => by rw [congrFun hz' a]; simp) ((best V c 50).2)).symm)
    fun i => ⟨tlast, (flush1_2 tlast).mpr rfl, by
      show i ∈ ((View.whole main_case0b0_v11_1).slice (win1_2.rect tlast)).set
      rw [View.set_slice_whole, Rect.mem_set_unit]
      intro a
      have h0 : (i 0 : Nat) < 32 := (i 0).isLt
      have h1 : (i 1 : Nat) < 1 := (i 1).isLt
      match a with
      | ⟨0, _⟩ => show win1_2.index tlast 0 * win1_2.size 0 ≤ (i 0 : Nat) ∧ (i 0 : Nat) < win1_2.index tlast 0 * win1_2.size 0 + win1_2.xsize (grid1.coords tlast) 0
                  rw [show win1_2.index tlast 0 * win1_2.size 0 = 0 from by decide +kernel, show win1_2.xsize (grid1.coords tlast) 0 = 32 from by decide +kernel]; omega
      | ⟨1, _⟩ => show win1_2.index tlast 1 * win1_2.size 1 ≤ (i 1 : Nat) ∧ (i 1 : Nat) < win1_2.index tlast 1 * win1_2.size 1 + win1_2.xsize (grid1.coords tlast) 1
                  rw [show win1_2.index tlast 1 * win1_2.size 1 = 0 from by decide +kernel, show win1_2.xsize (grid1.coords tlast) 1 = 1 from by decide +kernel]; omega⟩

/-- The block of point `t` is columns `16000 t` to `16000 t + 15999` of the operand. -/
theorem xb_apply (c : Dev nD) (t : Fin cfg1.N) (r : Fin 32) (k : Fin 16000) :
    xb V c t (fun | 0 => r | 1 => k) = V c main_case0b0_v10 (fun | 0 => r | 1 => ⟨16000 * t.val + k.val, by have : t.val < 50 := N_1 ▸ t.isLt; show _ < 800000; omega⟩) := by
  have hi : win1_0.index t 0 = 0 ∧ win1_0.index t 1 = t.val := by
    revert t; decide +kernel
  unfold xb; rw [View.read_apply]
  refine congrArg (V c main_case0b0_v10) (funext fun a => Fin.ext ?_)
  match a with
  | ⟨0, _⟩ => show win1_0.index t 0 * 32 + 1 * r.val = r.val; rw [hi.1]; omega
  | ⟨1, _⟩ => show win1_0.index t 1 * 16000 + 1 * k.val = 16000 * t.val + k.val; rw [hi.2]; omega

variable (Vp : (c : Dev nD) → (b : Ref sig .tc) → Buf (Elt F) ((c : Thread nD τ).loc b))

/-- The region between two valuations of the core's unscoped buffers that differ at the two results' arrays alone. -/
def reg1 (R : Dev nD → sProp 𝕄) (hval : ∀ c, Vp c main_case0b0_v11_0 = val1 V c) (harg : ∀ c, Vp c main_case0b0_v11_1 = arg1 V c)
    (hne : ∀ c (b : Ref sig .tc), b ≠ main_case0b0_v11_0 → b ≠ main_case0b0_v11_1 → Vp c b = V c b) :
    Pipeline.RegionSeg (pcfgs (F := F)) adm (pdats1 V adm) () defs₀ 𝒱₀ L lv 1 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ L lv 1 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := F)) adm (pdats1 V adm) launch1.win launch1.arr_whole c
      ((pdats1 V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact HR
  hin c := by
    rw [show (pdats1 V adm 1 c).Φ 0 = Φ1 V c 0 from rfl, show (Pipeline.scopedRest (Ix := Unit) (Name := ℕ) (U := UU) (Lvl := ℕ) (Val := Elt F) (Pipeline.pin (pcfgs (F := F)) adm 1).spec c : sProp 𝕄) = _ from scopedRest1_eq c]
    unfold Φ1 rest1
    iintro ⟨-, -, ⟨G0, G1, G2, G3, G4, ⟨%f4, H4⟩, ⟨%f5, H5⟩⟩⟩
    isplitl [G0 G1 G2 G3 G4]
    · isplitl [G0]; · iexact G0
      isplitl [G1]; · iexact G1
      isplitl [G2]; · iexact G2
      isplitl [G3]; · iexact G3
      iexact G4
    iexists f4; iexists f5
    isplitr; · ipureintro; exact fun h => absurd rfl h
    isplitl [H4]; · iexact H4
    iexact H5
  hout c := by
    rw [Pipeline.ownSems0_none, show (pdats1 V adm 1 c).Φ (Fin.last _) = Φ1 V c cfg1.N from rfl, show (Pipeline.scopedRest (Ix := Unit) (Name := ℕ) (U := UU) (Lvl := ℕ) (Val := Elt F) (Pipeline.pin (pcfgs (F := F)) adm 1).spec c : sProp 𝕄) = _ from scopedRest1_eq c]
    unfold Φ1 rest1
    iintro ⟨⟨G0, G1, G2, G3, G4⟩, %f4, %f5, -, H4, H5⟩
    isplitr; · iempintro
    isplitr; · iempintro
    isplitl [G0]; · iexact G0
    isplitl [G1]; · iexact G1
    isplitl [G2]; · iexact G2
    isplitl [G3]; · iexact G3
    isplitl [G4]; · iexact G4
    isplitl [H4]; · iexists f4; iexact H4
    iexists f5; iexact H5
  hexit c := by
    have hjoin := Pipeline.unscopedBufs_of_arrays (p := 1) (pcfgs (F := F)) adm (Ix := Unit) (Name := ℕ) (U := UU) (Lvl := ℕ) launch1.win launch1.arr_whole c
      (pdats1 V adm) ((pdats1 V adm 1 c).share_full fun _ => rfl) (V c) (Vp c) ((pdats1 V adm 1 c).arrAt · cfg1.N)
      (fun w => by
        fin_cases w
        · exact ((pdats1 V adm 1 c).arrAt_in 0 rfl _).trans (hne c main_case0b0_v10 (by decide) (by decide)).symm
        · exact (hval c).symm
        · exact (harg c).symm)
      (fun b hb => hne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest, HR⟩
    imodintro
    isplitl [Ha Hrest]
    · iapply hjoin; isplitl [Ha]; · iexact Ha
      iexact Hrest
    isplitl [HR]; · iexact HR
    unfold Pipeline.Dat.owesAt Pipeline.owesWithin
    icases HO with ⟨%W, -, HO⟩; iexists W; iexact HO

end Data

end Cert.Proof.Sampler

end
-- ==== Proof.KernelRun.lean ====
/-
  The sampler's whole run, over any float family: host operations, the first region, host operations, the host's branch
  (whose first arm holds the second region), host operations. @main is read as the chain of its items over the labels of
  no host loop, each item a segment from one valuation of the core's buffers to the next, and every final state has every
  unscoped buffer at the last valuation and every counter at zero.
-/
module

public import proofs.«01_k».proof.Proof.KernelPass
public import proofs.«01_k».proof.Defs
public import proofs.«01_k».proof.Proof.Gen.Kernel
public import Idealize.ShloMosaic.Lib.Pipeline.RegionsLoop
public import Idealize.ShloMosaic.Lib.Pipeline.RegionsCase
public import Idealize.ShloMosaic.Lib.HostLoop.Lifted
public import Idealize.ShloMosaic.Lib.StableHlo.Run

@[expose] public section

noncomputable section

namespace Cert.Proof.Sampler

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held wp_hlo_within)
open Idealize.ShloMosaic.Pipeline (CSeg CaseSeg Ticket ucRefs sub_ucRefs)

variable {F : FTy → Type} [FloatOps F]

local notation "𝕄" => MT nD τ sig Unit (Elt F) ℕ UU ℕ

/-- The labels of @main read over no host loop. -/
abbrev ΛL : Labels := HostLoop.Sig (Pipeline.Sig Λ₀ (Fin 2) fun p => (pcfgs (F := F) p).Adm) 0
/-- No host loop. -/
abbrev loops : Fin 0 → Prog (TpuEff nD τ sig (Elt F) (ΛL (F := F)) .tc) PUnit := fun l => l.elim0
/-- No region reads a table. -/
abbrev adm : (p : Fin 2) → (pcfgs (F := F) p).Adm := fun p => (cfgs p).toPCfg_adm

/-! ## The operations and the valuations between the items -/

/-- The branch's read: the predicate widened to the word that the branch takes. -/
abbrev rdOp : HloOp τ sig (Elt F) :=
  StableHlo.unary main_v6 main_v7 ((extui 32 · natLt_1_32) : (⟨S_, .i1⟩ : BufTy).Contents (Elt F) → (⟨S_, .i32⟩ : BufTy).Contents (Elt F))
/-- The first arm's operations before and after the region, and the second arm's. -/
abbrev opsIn : List (HloOp τ sig (Elt F)) :=
  [StableHlo.reshape main_arg1 main_case0b0_v10 (rfl : (.f32 : EltTy) = .f32) shapeCasts_S8x32x100000_S32x800000]
abbrev opsOut : List (HloOp τ sig (Elt F)) :=
  [StableHlo.reshape main_case0b0_v11_1 main_case0b0_v12 (rfl : (.i32 : EltTy) = .i32) shapeCasts_S32x1_S32,
    StableHlo.unary main_case0b0_v12 main_v8 id]
abbrev opsArm1 : List (HloOp τ sig (Elt F)) := [StableHlo.unary main_v2 main_v8 id]

section Vals
variable (m : (ℓ : Loc nD τ sig) → Buf (Elt F) ℓ)

/-- A valuation read at the core's references. -/
abbrev atTc (W : Dev nD → Valuation τ sig (Elt F)) : (c : Dev nD) → (b : Ref sig .tc) → Buf (Elt F) ((c : Thread nD τ).loc b) := fun c b => W c b

abbrev W0 (c : Dev nD) : Valuation τ sig (Elt F) := fun b => m (c, b)
def Wa (c : Dev nD) : Valuation τ sig (Elt F) := after hostOps0 (W0 m c)
def Wb (c : Dev nD) : Valuation τ sig (Elt F) :=
  Function.update (Function.update (Wa m c) (Proc.devRef .tc main_v1_0) (col0 (atTc (Wa m)) c)) (Proc.devRef .tc main_v1_1) (ok0 (atTc (Wa m)) c)
def Wc (c : Dev nD) : Valuation τ sig (Elt F) := after hostOps1 (Wb m c)
def Wd (c : Dev nD) : Valuation τ sig (Elt F) := after [rdOp] (Wc m c)
/-- The word that the branch is taken on. -/
def word (c : Dev nD) : BitVec 32 := Wd m c main_v7 HostLoop.idx0
def We (c : Dev nD) : Valuation τ sig (Elt F) := after opsIn (Wd m c)
def Wf (c : Dev nD) : Valuation τ sig (Elt F) :=
  Function.update (Function.update (We m c) (Proc.devRef .tc main_case0b0_v11_0) (val1 (atTc (We m)) c)) (Proc.devRef .tc main_case0b0_v11_1) (arg1 (atTc (We m)) c)
def Warm : Fin 2 → Dev nD → Valuation τ sig (Elt F)
  | 0 => fun c => after opsOut (Wf m c)
  | 1 => fun c => after opsArm1 (Wd m c)
def Wg (c : Dev nD) : Valuation τ sig (Elt F) := Warm m (HostLoop.branch (word m c) 1) c
def Wz (c : Dev nD) : Valuation τ sig (Elt F) := after hostOps1_1 (Wg m c)

theorem Wb_col (c : Dev nD) : Wb m c main_v1_0 = col0 (atTc (Wa m)) c := by
  unfold Wb; rw [Function.update_of_ne (StableHlo.devRef_ne_of_ne (by decide))]; exact Function.update_self ..
theorem Wb_ok (c : Dev nD) : Wb m c main_v1_1 = ok0 (atTc (Wa m)) c := Function.update_self ..
theorem Wb_ne (c : Dev nD) (b : Ref sig .tc) (h : b ≠ main_v1_0) (h' : b ≠ main_v1_1) : Wb m c b = Wa m c b := by
  unfold Wb; rw [Function.update_of_ne (StableHlo.devRef_ne_of_ne h'), Function.update_of_ne (StableHlo.devRef_ne_of_ne h)]
theorem Wf_val (c : Dev nD) : Wf m c main_case0b0_v11_0 = val1 (atTc (We m)) c := by
  unfold Wf; rw [Function.update_of_ne (StableHlo.devRef_ne_of_ne (by decide))]; exact Function.update_self ..
theorem Wf_arg (c : Dev nD) : Wf m c main_case0b0_v11_1 = arg1 (atTc (We m)) c := Function.update_self ..
theorem Wf_ne (c : Dev nD) (b : Ref sig .tc) (h : b ≠ main_case0b0_v11_0) (h' : b ≠ main_case0b0_v11_1) : Wf m c b = We m c b := by
  unfold Wf; rw [Function.update_of_ne (StableHlo.devRef_ne_of_ne h'), Function.update_of_ne (StableHlo.devRef_ne_of_ne h)]

/-- What rides along beside the buffers: `R`, and that the core owes nothing. -/
abbrev Rw (R : Dev nD → sProp 𝕄) (c : Dev nD) : sProp 𝕄 := iprop(R c ∗ ∃ W, owes (c : Thread nD τ) (0 : CellTallies nD τ sig Unit) W)
abbrev R0 : Dev nD → sProp 𝕄 := fun _ => BI.emp

/-- The two spellings of every unscoped buffer at `W`. -/
theorem thread_eq (R : Dev nD → sProp 𝕄) (W : Dev nD → Valuation τ sig (Elt F)) (c : Dev nD) :
    iprop(held (c : Thread nD τ) (ucRefs τ sig) (W c) ∗ Rw R c)
      = iprop(unscopedBufs c (atTc W c) ∗ R c ∗ ∃ W', owes (c : Thread nD τ) (0 : CellTallies nD τ sig Unit) W') := by
  rw [show unscopedBufs c (atTc W c) = held (c : Thread nD τ) (ucRefs τ sig) (W c) from Pipeline.unscopedBufs_held c (W c)]

/-! ## The segments -/

/-- One ticket per region, each run at most once. -/
def tk : Fin 2 → Ticket (Ix := Unit) (Name := ℕ) (U := UU) (Lvl := ℕ) (nD := nD) (τ := τ) (pcfgs (F := F)) adm
  | 0 => { p := 0, pdats := pdats0 (atTc (Wa m)) adm, EP := embAt 0 }
  | 1 => { p := 1, pdats := pdats1 (atTc (We m)) adm, EP := embAt 1 }

abbrev KSeg : Type 1 := CSeg (pcfgs (F := F)) adm defs₀ 𝒱₀ L lv loops (tk m)

theorem sub_of {ops : List (HloOp τ sig (Elt F))} (h : ops.Forall fun op => op.bufs ⊆ StableHlo.tcRefs τ sig) : ∀ op ∈ ops, op.bufs ⊆ ucRefs τ sig :=
  fun op ho => sub_ucRefs op (List.forall_iff_forall_mem.mp h op ho)

def seg0 : KSeg m := CSeg.ofOps _ _ _ _ _ _ _ _ (ucRefs τ sig) hostOps0 (sub_of hostOps0_sub) (by intro op h; fin_cases h <;> rfl) (W0 m) (Rw R0)
def seg1 : KSeg m := CSeg.region _ _ () cellOf_inj _ _ _ _ _ _ (0 : Fin 2)
  (reg0 (atTc (Wa m)) adm (atTc (Wb m)) R0 (Wb_col m) (Wb_ok m) (Wb_ne m))
def seg2 : KSeg m := CSeg.ofOps _ _ _ _ _ _ _ _ (ucRefs τ sig) hostOps1 (sub_of hostOps1_sub) (by intro op h; fin_cases h <;> rfl) (Wb m) (Rw R0)
def seg4 : KSeg m := CSeg.ofOps _ _ _ _ _ _ _ _ (ucRefs τ sig) hostOps1_1 (sub_of hostOps1_1_sub) (by intro op h; fin_cases h <;> rfl) (Wg m) (Rw R0)

/-- The read and the arms as printed. -/
abbrev rdProg : Prog (TpuEff nD τ sig (Elt F) (ΛL (F := F)) .tc) (BitVec 32) := hlo rfl (rdOp (F := F)) (HostLoop.elt main_v7)
abbrev armProg : Fin 2 → Prog (TpuEff nD τ sig (Elt F) (ΛL (F := F)) .tc) PUnit
  | 0 => do
      hlo rfl (StableHlo.reshape main_arg1 main_case0b0_v10 (rfl : (.f32 : EltTy) = .f32) shapeCasts_S8x32x100000_S32x800000) (fun _ => .ret ⟨⟩)
      Prog.lift (.customCall (HostLoop.inner (Pipeline.entry 1)) ())
      hlo rfl (StableHlo.reshape main_case0b0_v11_1 main_case0b0_v12 (rfl : (.i32 : EltTy) = .i32) shapeCasts_S32x1_S32) (fun _ => .ret ⟨⟩)
      hlo rfl (StableHlo.unary main_case0b0_v12 main_v8 id) (fun _ => .ret ⟨⟩)
      pure ⟨⟩
  | 1 => do
      hlo rfl (StableHlo.unary main_v2 main_v8 id) (fun _ => .ret ⟨⟩)
      pure ⟨⟩
  | ⟨_ + 2, h⟩ => absurd h (Nat.not_lt.2 (Nat.le_add_left _ _))

/-- Through arm `b` rides the fact that `b` is the arm that the word names. -/
abbrev Rb (b : Fin 2) : Dev nD → sProp 𝕄 := fun c => iprop(⌜b = HostLoop.branch (word m c) 1⌝)

def armSegs0 : List (KSeg m) :=
  [ CSeg.ofOps _ _ _ _ _ _ _ _ (ucRefs τ sig) opsIn (fun op h => sub_ucRefs op (by fin_cases h; exact StableHlo.reshape_bufs_sub ..)) (by intro op h; fin_cases h <;> rfl) (Wd m) (Rw (Rb m 0)),
           CSeg.region _ _ () cellOf_inj _ _ _ _ _ _ (1 : Fin 2) (reg1 (atTc (We m)) adm (atTc (Wf m)) (Rb m 0) (Wf_val m) (Wf_arg m) (Wf_ne m)),
           CSeg.ofOps _ _ _ _ _ _ _ _ (ucRefs τ sig) opsOut (fun op h => sub_ucRefs op (by fin_cases h; exacts [StableHlo.reshape_bufs_sub .., StableHlo.unary_bufs_sub ..])) (by intro op h; fin_cases h <;> rfl) (Wf m) (Rw (Rb m 0)) ]
def armSegs1 : List (KSeg m) :=
  [ CSeg.ofOps _ _ _ _ _ _ _ _ (ucRefs τ sig) opsArm1 (fun op h => sub_ucRefs op (by fin_cases h; exact StableHlo.unary_bufs_sub ..)) (by intro op h; fin_cases h <;> rfl) (Wd m) (Rw (Rb m 1)) ]
def armSegs : Fin 2 → List (KSeg m)
  | 0 => armSegs0 m
  | 1 => armSegs1 m

abbrev cpre (c : Dev nD) : sProp 𝕄 := iprop(held (c : Thread nD τ) (ucRefs τ sig) (Wc m c) ∗ Rw R0 c)
abbrev cmid (v : BitVec 32) (c : Dev nD) : sProp 𝕄 := iprop(held (c : Thread nD τ) (ucRefs τ sig) (Wd m c) ∗ ⌜v = word m c⌝ ∗ ∃ W, owes (c : Thread nD τ) (0 : CellTallies nD τ sig Unit) W)
abbrev cpost (c : Dev nD) : sProp 𝕄 := iprop(held (c : Thread nD τ) (ucRefs τ sig) (Wg m c) ∗ Rw R0 c)

set_option backward.isDefEq.respectTransparency.types false in
theorem read_spec (c : Dev nD) (bd : Option (Variants.lift 𝒱₀).V) :
    iprop(boundary (c : Thread nD τ) ∗ cpre m c)
      ⊢ wp frame (wpE (HostLoop.defs loops (Pipeline.defs (pcfgs (F := F)) defs₀)) (Variants.lift 𝒱₀) (c : Thread nD τ) bd) Set.univ (rdProg (F := F))
          (fun v => iprop(⌜True⌝ ∗ boundary (c : Thread nD τ) ∗ cmid m v c)) := by
  unfold rdProg
  iintro ⟨Hb, Hh, -, HR⟩
  iapply (wp_hlo_within (Variants.lift 𝒱₀) (c : Thread nD τ) bd Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold Wd; rw [StableHlo.after_cons, StableHlo.after_nil]; iexact Hh
  isplitr; · ipureintro; rfl
  iexact HR

theorem arm_pre (c : Dev nD) (v : BitVec 32) (b : Fin 2) (hb : b = HostLoop.branch v 1) :
    cmid m v c ⊢ iprop(held (c : Thread nD τ) (ucRefs τ sig) (Wd m c) ∗ Rw (Rb m b) c) := by
  iintro ⟨Hh, %hv, HR⟩
  isplitl [Hh]; · iexact Hh
  isplitr; · ipureintro; rw [hb, hv]
  iexact HR

theorem arm_post (c : Dev nD) (b : Fin 2) : iprop(held (c : Thread nD τ) (ucRefs τ sig) (Warm m b c) ∗ Rw (Rb m b) c) ⊢ cpost m c := by
  iintro ⟨Hh, %hv, HR⟩
  unfold cpost Wg
  rw [← hv]
  isplitl [Hh]; · iexact Hh
  isplitr; · iempintro
  iexact HR

theorem arm_chain (c : Dev nD) (v : BitVec 32) : (b : Fin 2) → b = HostLoop.branch v 1 → CSeg.ChainsAt c (cmid m v) (armSegs m b) (cpost m)
  | 0, hb => by
    show CSeg.ChainsAt c (cmid m v) (armSegs0 m) (cpost m)
    exact ⟨arm_pre m c v 0 hb, Entails.of_eq (thread_eq (Rb m 0) (We m) c), Entails.of_eq (thread_eq (Rb m 0) (Wf m) c).symm, arm_post m c 0⟩
  | 1, hb => by
    show CSeg.ChainsAt c (cmid m v) (armSegs1 m) (cpost m)
    exact ⟨arm_pre m c v 1 hb, arm_post m c 1⟩

def condW : CaseSeg (pcfgs (F := F)) adm defs₀ 𝒱₀ L lv loops (tk m) :=
  { on := fun _ => True
    N := 1
    rd := rdProg
    br := armProg
    pre := cpre m
    mid := cmid m
    post := cpost m
    live := fun _ => True
    hrd := fun c _ bd => read_spec m c bd
    segs := armSegs m
    hch := fun c _ v _ => arm_chain m c v _ rfl
    hbr := fun b _ => by fin_cases b <;> chain_rfl
    B := (Pipeline.pin (pcfgs (F := F)) adm 1).tripCount + 1
    hM := fun b _ s hs => by
      match b with
      | 0 =>
        simp only [armSegs, armSegs0, armSegs1, List.mem_cons, List.mem_nil_iff, or_false] at hs
        rcases hs with rfl | rfl | rfl
        · exact Nat.zero_le _
        · exact le_rfl
        · exact Nat.zero_le _
      | 1 =>
        simp only [armSegs, armSegs0, armSegs1, List.mem_cons, List.mem_nil_iff, or_false] at hs
        subst hs; exact Nat.zero_le _
    T := {1}
    hT := fun b _ s hs => by
      match b with
      | 0 =>
        simp only [armSegs, armSegs0, armSegs1, List.mem_cons, List.mem_nil_iff, or_false] at hs
        rcases hs with rfl | rfl | rfl
        · exact Finset.empty_subset _
        · exact subset_rfl
        · exact Finset.empty_subset _
      | 1 =>
        simp only [armSegs, armSegs0, armSegs1, List.mem_cons, List.mem_nil_iff, or_false] at hs
        subst hs; exact Finset.empty_subset _
    hdisT := fun b _ => by
      match b with
      | 0 => exact .cons (fun s _ => Finset.disjoint_empty_left _) (.cons (fun s hs => by obtain rfl := List.mem_singleton.mp hs; exact Finset.disjoint_empty_right _) (List.pairwise_singleton ..))
      | 1 => exact List.pairwise_singleton .. }

def seg3 : KSeg m := CSeg.case _ _ _ _ _ _ _ _ (condW m)

abbrev segs : List (KSeg m) := [seg0 m, seg1 m, seg2 m, seg3 m, seg4 m]

set_option maxRecDepth 100000 in
/-- @main over the labels of no host loop is the run of the segments. -/
theorem main_run (c : Dev nD) : HostLoop.liftProg (L := 0) (main (F := F) c) = CSeg.runL (segs m) := by
  rw [main_chain, HostLoop.liftProg_chain]
  simp only [List.map_cons, List.map_nil, HostLoop.liftProg_seq]
  refine (congrArg Pipeline.chain (?_ : _ = [StableHlo.seq hostOps0, Prog.lift (.customCall (HostLoop.inner (Pipeline.entry 0)) ()), StableHlo.seq hostOps1,
    (rdProg (F := F) >>= fun x => HostLoop.case 2 x armProg), StableHlo.seq hostOps1_1])).trans (by chain_rfl)
  refine congrArg₂ List.cons rfl (congrArg₂ List.cons rfl (congrArg₂ List.cons rfl (congrArg₂ List.cons ?_ rfl)))
  rw [HostLoop.liftProg_bind]
  refine congrArg (rdProg (F := F) >>= ·) (funext fun x => ?_)
  rw [HostLoop.liftProg_case]
  refine congrArg (HostLoop.case 2 x) (funext fun i => ?_)
  match i with
  | 0 => rfl
  | 1 => rfl

/-! ## The launch -/

abbrev T₀ (c : Dev nD) : sProp 𝕄 := iprop(held (c : Thread nD τ) (ucRefs τ sig) (W0 m c) ∗ Rw R0 c)
abbrev Tₙ (c : Dev nD) : sProp 𝕄 := held (c : Thread nD τ) (ucRefs τ sig) (Wz m c)

theorem segs_disjoint : (segs m).Pairwise fun s s' => Disjoint s.T s'.T := by
  have e (s : Finset (Fin 2)) : Disjoint (∅ : Finset (Fin 2)) s := Finset.disjoint_empty_left _
  have e' (s : Finset (Fin 2)) : Disjoint s (∅ : Finset (Fin 2)) := Finset.disjoint_empty_right _
  refine .cons (fun s _ => e _) (.cons ?_ (.cons (fun s _ => e _) (.cons ?_ (List.pairwise_singleton ..))))
  · intro s hs
    simp only [List.mem_cons, List.mem_nil_iff, or_false] at hs
    rcases hs with rfl | rfl | rfl
    · exact e' _
    · exact (by decide : Disjoint ({0} : Finset (Fin 2)) {1})
    · exact e' _
  · intro s hs
    obtain rfl := List.mem_singleton.mp hs
    exact e' _

theorem chains : CSeg.Chains (T₀ m) (segs m) fun c => iprop(Tₙ m c ∗ ∃ W, owes (c.tc : Thread nD τ) (0 : CellTallies nD τ sig Unit) W) :=
  ⟨fun _ => .rfl, fun c => Entails.of_eq (thread_eq R0 (Wa m) c), fun c => Entails.of_eq (thread_eq R0 (Wb m) c).symm,
    fun _ => CSeg.case_pre _ _ _ _ _ _ _ _ (condW m) trivial, fun _ => .rfl, fun c => by
      show iprop(held (c : Thread nD τ) (ucRefs τ sig) (Wz m c) ∗ Rw R0 c) ⊢ _
      iintro ⟨Hh, -, HO⟩
      isplitl [Hh]; · iexact Hh
      iexact HO⟩

/-- A copy of the launch's tokens for each region. -/
abbrev toks : UR sig nD τ := Rounds.initOf (Pipeline.cells (Pipeline.pin (pcfgs (F := F)) adm) cellOf_inj) (Pipeline.launchToks (Pipeline.pin (pcfgs (F := F)) adm) cellOf_inj)

theorem toks_of : (bigSep Finset.univ fun j : Fin 2 => BI.own (embAt (B := Counters) j (toks (F := F))) : sProp 𝕄)
    ⊢ bigSep Finset.univ fun j => BI.own ((tk m j).EP (toks (F := F))) :=
  bigSep_mono fun j _ => by
    match j with
    | 0 =>
      show (BI.own (embAt (B := Counters) 0 (toks (F := F))) : sProp 𝕄) ⊢ BI.own (embAt (B := Counters) 0 (toks (F := F)))
      exact .rfl
    | 1 =>
      show (BI.own (embAt (B := Counters) 1 (toks (F := F))) : sProp 𝕄) ⊢ BI.own (embAt (B := Counters) 1 (toks (F := F)))
      exact .rfl

/-- What the launch deals the core is its first state. -/
theorem dealt (g : Dev nD → PrngReg) :
    (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => (0 : CellTallies nD τ sig Unit)) c ∗ prngReg c (g c) ∗ BI.emp) : sProp 𝕄)
      ⊢ bigSep Finset.univ (T₀ m) :=
  bigSep_mono fun c _ => by
    rw [show unscopedBufs c (fun b => m ((c.tc : Thread nD τ).loc b)) = held (c : Thread nD τ) (ucRefs τ sig) (W0 m c) from Pipeline.unscopedBufs_held c (W0 m c)]
    show _ ⊢ iprop(held (c : Thread nD τ) (ucRefs τ sig) (W0 m c) ∗ Rw R0 c)
    iintro ⟨Hh, -, HO, -⟩
    isplitl [Hh]; · iexact Hh
    isplitr; · iempintro
    iexists ∅; iexact HO

set_option backward.isDefEq.respectTransparency.types false in
/-- THE RUN: from any memory, with the counters at zero, every weakly fair execution of @main terminates, nothing faulting,
    and every final state has every unscoped buffer at `Wz` and every counter at zero. -/
theorem run_main (g : Dev nD → PrngReg) : θ_run defs (onTc (τ := τ) (main (F := F))) ⟨m, fun _ => 0, g⟩
    (fun r => (∀ (c : Dev nD), ∀ b ∈ ucRefs τ sig, r.2.mem (((c : Thread nD τ)).1, b) = Wz m c b) ∧ r.2.sem = fun _ => 0) := by
  refine HostLoop.θ_run_of_lift (L := 0) loops defs main ⟨m, fun _ => 0, g⟩ _ ?_
  refine Pipeline.θ_run_regions_loop_kit_sems (pcfgs (F := F)) adm cellOf_inj defs₀ 𝒱₀ L lv loops (tk m) m g
    (fun d => HostLoop.liftProg (L := 0) (main d)) (segs m)
    (fun c Q => by rw [main_run m c]) (segs_disjoint m)
    (O₀ := fun _ => 0) (hL := fun _ _ => rfl) (G := fun _ => BI.emp)
    (u₀ := ((fun _ => (toks (F := F))), 1))
    (hu₀ := ?_) (T₀ := T₀ m) (Tₙ := Tₙ m) (hch := chains m) (hinit := ?_)
    (QY := fun c s => ∀ b ∈ ucRefs τ sig, s.mem (((c : Thread nD τ)).1, b) = Wz m c b) (hfin := ?_) (hQ := ?_)
  · iintro Hu
    ihave H := (ownU_pair _ _) $$ Hu
    icases H with ⟨HA, -⟩
    ihave HA := (own_iprod _) $$ HA
    imodintro
    isplitl [HA]
    · iapply (toks_of m); iexact HA
    rw [show (Finset.univ : Finset (Dev nD)) = {0} from rfl, BI.bigSep_singleton]; iempintro
  · iintro ⟨H, -⟩
    imodintro
    iapply (dealt m g); iexact H
  · intro c s'
    unfold Tₙ held
    iintro ⟨Hh, HSI⟩
    ihave Hp := (pointsTo_read_all (ucRefs τ sig) (fun b => (((c : Thread nD τ)).1, b)) (Wz m c) s') $$ [Hh HSI]
    · isplitl [Hh] <;> iassumption
    icases Hp with ⟨%hb, HSI⟩
    imodintro
    isplitr; · ipureintro; exact hb
    iexact HSI
  · intro s h hs
    exact ⟨h, sem_eq_zero hs fun c sm hsm => by
      have hl : ∀ sm : SemLoc sig, sm.isScoped .tc = false → False := by decide
      exact (hl sm hsm).elim⟩

/-! ## The arguments are unchanged -/

theorem hostOps0_keep (V : Valuation τ sig (Elt F)) (b : Ref sig .tc) (h : b ∉ [main_c, main_cst, main_cst_0, main_v0]) : after hostOps0 V b = V b :=
  StableHlo.after_of_writes_sub hostOps0 V (StableHlo.forall_writes_sub_of_map rfl) h
theorem hostOps1_keep (V : Valuation τ sig (Elt F)) (b : Ref sig .tc) (h : b ∉ [main_v2, main_v3, main_c_1, main_v4, main_v5, main_c_2, main_v6]) : after hostOps1 V b = V b :=
  StableHlo.after_of_writes_sub hostOps1 V (StableHlo.forall_writes_sub_of_map rfl) h
theorem rd_keep (V : Valuation τ sig (Elt F)) (b : Ref sig .tc) (h : b ∉ [main_v7]) : after [rdOp] V b = V b :=
  StableHlo.after_of_writes_sub [rdOp] V (StableHlo.forall_writes_sub_of_map rfl) h
theorem opsIn_keep (V : Valuation τ sig (Elt F)) (b : Ref sig .tc) (h : b ∉ [main_case0b0_v10]) : after opsIn V b = V b :=
  StableHlo.after_of_writes_sub opsIn V (StableHlo.forall_writes_sub_of_map rfl) h
theorem opsOut_keep (V : Valuation τ sig (Elt F)) (b : Ref sig .tc) (h : b ∉ [main_case0b0_v12, main_v8]) : after opsOut V b = V b :=
  StableHlo.after_of_writes_sub opsOut V (StableHlo.forall_writes_sub_of_map rfl) h
theorem opsArm1_keep (V : Valuation τ sig (Elt F)) (b : Ref sig .tc) (h : b ∉ [main_v8]) : after opsArm1 V b = V b :=
  StableHlo.after_of_writes_sub opsArm1 V (StableHlo.forall_writes_sub_of_map rfl) h
theorem hostOps1_1_keep (V : Valuation τ sig (Elt F)) (b : Ref sig .tc) (h : b ∉ [main_v9]) : after hostOps1_1 V b = V b :=
  StableHlo.after_of_writes_sub hostOps1_1 V (StableHlo.forall_writes_sub_of_map rfl) h

/-- The two arguments. -/
abbrev argRefs : List (Ref sig .tc) := [main_arg0, main_arg1]

theorem Wd_arg (c : Dev nD) (b : Ref sig .tc) (h : b ∈ argRefs) : Wd m c b = m ((c : Thread nD τ).loc b) := by
  have h1 : ∀ b ∈ argRefs, b ∉ [main_v7] ∧ b ∉ [main_v2, main_v3, main_c_1, main_v4, main_v5, main_c_2, main_v6] ∧ b ≠ main_v1_0 ∧ b ≠ main_v1_1
      ∧ b ∉ [main_c, main_cst, main_cst_0, main_v0] := by decide
  obtain ⟨a1, a2, a3, a4, a5⟩ := h1 b h
  unfold Wd; rw [rd_keep _ _ a1]
  unfold Wc; rw [hostOps1_keep _ _ a2, Wb_ne m c b a3 a4]
  unfold Wa; rw [hostOps0_keep _ _ a5]

theorem Warm_arg (c : Dev nD) (b : Ref sig .tc) (h : b ∈ argRefs) : (k : Fin 2) → Warm m k c b = m ((c : Thread nD τ).loc b)
  | 0 => by
    have h1 : ∀ b ∈ argRefs, b ∉ [main_case0b0_v12, main_v8] ∧ b ≠ main_case0b0_v11_0 ∧ b ≠ main_case0b0_v11_1 ∧ b ∉ [main_case0b0_v10] := by decide
    obtain ⟨a1, a2, a3, a4⟩ := h1 b h
    show after opsOut (Wf m c) b = _
    rw [opsOut_keep _ _ a1, Wf_ne m c b a2 a3]
    unfold We; rw [opsIn_keep _ _ a4, Wd_arg m c b h]
  | 1 => by
    have h1 : ∀ b ∈ argRefs, b ∉ [main_v8] := by decide
    show after opsArm1 (Wd m c) b = _
    rw [opsArm1_keep _ _ (h1 b h), Wd_arg m c b h]

theorem Wz_arg (c : Dev nD) (b : Ref sig .tc) (h : b ∈ argRefs) : Wz m c b = m ((c : Thread nD τ).loc b) := by
  have h1 : ∀ b ∈ argRefs, b ∉ [main_v9] := by decide
  unfold Wz Wg; rw [hostOps1_1_keep _ _ (h1 b h), Warm_arg m c b h]

theorem mem_uc (b : Ref sig .tc) (h : ¬ (Proc.devRef (τ := τ) .tc b).isScoped) : Proc.devRef (τ := τ) .tc b ∈ ucRefs τ sig :=
  Finset.mem_filter.mpr ⟨StableHlo.devRef_mem_tcRefs b, h⟩

/-- The frame, over any float family. -/
theorem frame_main (g : Dev nD → PrngReg) : θ_run defs (onTc (τ := τ) (main (F := F))) ⟨m, fun _ => 0, g⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c _ (mem_uc main_arg0 (by decide))).trans (Wz_arg m c main_arg0 (by decide)),
    (h.1 c _ (mem_uc main_arg1 (by decide))).trans (Wz_arg m c main_arg1 (by decide))⟩, h.2⟩) (run_main m g)

end Vals

/-- The two texts' calls are one. -/
theorem defs0_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl

theorem defs_eq : Cert.Kernel.defs (F := Bits) = Cert.KernelIdeal.defs (F := Bits) := by
  unfold Cert.Kernel.defs Cert.KernelIdeal.defs
  exact congrArg (Pipeline.defs Cert.KernelIdeal.pcfgs) defs0_eq

theorem frame_kernel : Cert.quiescent_Kernel := fun m g _ => by
  rw [defs_eq]
  exact frame_main (F := Bits) m g
theorem frame_kernelIdeal : Cert.quiescent_KernelIdeal := fun m g _ => frame_main (F := Ideal) m g

end Cert.Proof.Sampler

end
-- ==== Proof.Threefry.lean ====
/-
  The generator both programs share, on one element: the twenty rounds of the counter-based generator at the fixed key
  (0, 42), the number in [0, 1) the resulting word names, the Gumbel variate of it and the score of a weight. And the
  bounds of these: the variate is a real number below twenty-four times the logarithm of two.
-/
module

public import Idealize.ShloMosaic.PureOps
public import Idealize.ShloMosaic.Lib.IdealHost

@[expose] public section

noncomputable section

namespace Cert.Proof.Sampler

open Idealize.ShloMosaic

/-! ## The rounds -/

/-- A word rotated: left by `n`, with `k` the complement of `n` to 32. -/
def rot (n k x : BitVec 32) : BitVec 32 := IntOp.ori (x <<< n) (x >>> k)

/-- One round: the sum, and the sum xor the second word rotated. -/
def mix (n k : BitVec 32) (p : BitVec 32 × BitVec 32) : BitVec 32 × BitVec 32 :=
  (IntOp.addi p.1 p.2, IntOp.xori (IntOp.addi p.1 p.2) (rot n k p.2))

/-- Four rounds, of the odd groups and of the even ones. -/
def oddMix (p : BitVec 32 × BitVec 32) : BitVec 32 × BitVec 32 := mix 6 26 (mix 26 6 (mix 15 17 (mix 13 19 p)))
def evenMix (p : BitVec 32 × BitVec 32) : BitVec 32 × BitVec 32 := mix 24 8 (mix 16 16 (mix 29 3 (mix 17 15 p)))

/-- A key injection: a key word added to the first word, another and the injection's number to the second. -/
def inject (a b n : BitVec 32) (p : BitVec 32 × BitVec 32) : BitVec 32 × BitVec 32 :=
  (IntOp.addi p.1 a, IntOp.addi (IntOp.addi p.2 b) n)

/-- The state after each group of the generator, from a pair. -/
def state1 (p : BitVec 32 × BitVec 32) : BitVec 32 × BitVec 32 := inject 42#32 466689008#32 1#32 (oddMix p)
def state2 (p : BitVec 32 × BitVec 32) : BitVec 32 × BitVec 32 := inject 466689008#32 0#32 2#32 (evenMix (state1 p))
def state3 (p : BitVec 32 × BitVec 32) : BitVec 32 × BitVec 32 := inject 0#32 42#32 3#32 (oddMix (state2 p))
def state4 (p : BitVec 32 × BitVec 32) : BitVec 32 × BitVec 32 := inject 42#32 466689008#32 4#32 (evenMix (state3 p))
def state5 (p : BitVec 32 × BitVec 32) : BitVec 32 × BitVec 32 := inject 466689008#32 0#32 5#32 (oddMix (state4 p))

/-- The word of a counter. -/
def word32 (c : BitVec 32) : BitVec 32 :=
  IntOp.xori (state5 (0#32, IntOp.addi c 42#32)).1 (state5 (0#32, IntOp.addi c 42#32)).2

/-! ## The score -/

def tiny : EReal := Ideal.ofBits .f32 0x00800000#32
def eps : EReal := Ideal.ofBits .f32 0x0DA24260#32

/-- The number in [0, 1) a word names: its upper 23 bits as the fraction of a float in [1, 2), less one. -/
def unit (w : BitVec 32) : EReal := Ideal.ofBits .f32 (IntOp.ori (w >>> 9#32) 0x3F800000#32) - Ideal.ofBits .f32 0x3F800000#32

/-- The Gumbel variate of a word. -/
def noise (w : BitVec 32) : EReal := -Ideal.log (-Ideal.log (max tiny (unit w + tiny)))

/-- A weight's score. -/
def score (w : BitVec 32) (p : EReal) : EReal := Ideal.log (p + eps) + noise w

/-! ## Bounds -/

theorem tiny_eq : tiny = (((2 : ℝ) ^ (-126 : ℤ) : ℝ) : EReal) := by
  simp [tiny, Ideal.ofBits, Ideal.ieee, -EReal.coe_mul]
  norm_num

theorem eps_le : ∃ r : ℝ, eps = r ∧ 0 < r ∧ r ≤ (2 : ℝ) ^ (-99 : ℤ) := by
  refine ⟨_, by simp [eps, Ideal.ofBits, Ideal.ieee, -EReal.coe_mul]; rfl, ?_, ?_⟩
  · positivity
  · norm_num

/-- The word's upper 23 bits under the exponent of one. -/
def mantissa (w : BitVec 32) : BitVec 32 := IntOp.ori (w >>> 9#32) 0x3F800000#32

theorem mantissa_sign (w : BitVec 32) : (mantissa w).extractLsb' 31 1 = 0#1 := by
  apply BitVec.eq_of_getLsbD_eq
  intro i hi
  interval_cases i
  simp [mantissa, IntOp.ori]

theorem mantissa_exponent (w : BitVec 32) : (mantissa w).extractLsb' 23 8 = 127#8 := by
  apply BitVec.eq_of_getLsbD_eq
  intro i hi
  interval_cases i <;> simp [mantissa, IntOp.ori]

/-- The number is a multiple of 2⁻²³ below one. -/
theorem unit_eq (w : BitVec 32) : ∃ n : ℕ, n < 2 ^ 23 ∧ unit w = (((n : ℝ) * (2 : ℝ) ^ (-23 : ℤ) : ℝ) : EReal) := by
  refine ⟨((mantissa w).extractLsb' 0 23).toNat, BitVec.isLt _, ?_⟩
  show Ideal.ieee 8 23 (mantissa w) - Ideal.ofBits .f32 0x3F800000#32 = _
  rw [Ideal.ofBits_one_f32]
  generalize hf : ((mantissa w).extractLsb' 0 23).toNat = n
  have h : Ideal.ieee 8 23 (mantissa w) = ((1 + (n : ℝ) * (2 : ℝ) ^ (-23 : ℤ) : ℝ) : EReal) := by
    unfold Ideal.ieee
    simp only [show 8 + 23 = 31 from rfl, mantissa_sign, mantissa_exponent, hf]
    norm_num [-EReal.coe_mul, -EReal.coe_add]
    ring
  rw [h]
  rw [← EReal.coe_one, ← EReal.coe_sub]
  congr 1
  ring

theorem unit_real (w : BitVec 32) : ∃ r : ℝ, unit w = r ∧ 0 ≤ r ∧ r ≤ 1 - (2 : ℝ) ^ (-23 : ℤ) := by
  obtain ⟨n, hn, h⟩ := unit_eq w
  refine ⟨_, h, by positivity, ?_⟩
  have hR : (n : ℝ) ≤ 8388607 := by
    have : n ≤ 8388607 := by omega
    exact_mod_cast this
  have h23 : (2 : ℝ) ^ (-23 : ℤ) = 1 / 8388608 := by norm_num
  rw [h23]
  linarith

theorem unit_nonneg (w : BitVec 32) : 0 ≤ unit w := by
  obtain ⟨r, h, h0, -⟩ := unit_real w
  rw [h]
  exact_mod_cast h0

/-- The logarithm of a positive real. -/
theorem log_pos {r : ℝ} (h : 0 < r) : Ideal.log (r : EReal) = (Real.log r : EReal) := by
  show (if r ≤ 0 then (⊥ : EReal) else _) = _
  rw [if_neg (not_le.2 h)]

/-- The variate is real, and below twenty-four times the logarithm of two. -/
theorem noise_real (w : BitVec 32) : ∃ g : ℝ, noise w = g ∧ g ≤ 24 * Real.log 2 := by
  obtain ⟨r, hr, h0, h1⟩ := unit_real w
  have ht : (0 : ℝ) < (2 : ℝ) ^ (-126 : ℤ) := by positivity
  have hmax : max tiny (unit w + tiny) = ((r + (2 : ℝ) ^ (-126 : ℤ) : ℝ) : EReal) := by
    rw [hr, tiny_eq, ← EReal.coe_add, max_eq_right]
    exact_mod_cast (by linarith)
  have hu0 : 0 < r + (2 : ℝ) ^ (-126 : ℤ) := by linarith
  have hu1 : r + (2 : ℝ) ^ (-126 : ℤ) ≤ 1 - (2 : ℝ) ^ (-24 : ℤ) := by
    have : (2 : ℝ) ^ (-126 : ℤ) ≤ (2 : ℝ) ^ (-24 : ℤ) := zpow_le_zpow_right₀ (by norm_num) (by norm_num)
    have : (2 : ℝ) ^ (-23 : ℤ) = 2 * (2 : ℝ) ^ (-24 : ℤ) := by norm_num
    linarith
  have hl : (2 : ℝ) ^ (-24 : ℤ) ≤ -Real.log (r + (2 : ℝ) ^ (-126 : ℤ)) := by
    have := Real.log_le_sub_one_of_pos hu0
    linarith
  have hp : (0 : ℝ) < (2 : ℝ) ^ (-24 : ℤ) := by positivity
  refine ⟨-Real.log (-Real.log (r + (2 : ℝ) ^ (-126 : ℤ))), ?_, ?_⟩
  · unfold noise
    rw [hmax, log_pos hu0, ← EReal.coe_neg, log_pos (lt_of_lt_of_le hp hl), ← EReal.coe_neg]
  · have := Real.log_le_log hp hl
    rw [Real.log_zpow] at this
    push_cast at this
    linarith

/-- At a weight of zero, or of minus one, the score is negative. -/
theorem score_neg (w : BitVec 32) {p : EReal} (hp : p ≤ 0) : score w p < 0 := by
  obtain ⟨g, hg, hg1⟩ := noise_real w
  obtain ⟨e, he, he0, he1⟩ := eps_le
  have hlog : Ideal.log (p + eps) ≤ ((-99 * Real.log 2 : ℝ) : EReal) := by
    rw [he]
    induction p with
    | bot => rw [EReal.bot_add]; exact bot_le
    | top => exact absurd hp (by simp)
    | coe p =>
      have hp : p ≤ 0 := by exact_mod_cast hp
      rw [← EReal.coe_add]
      by_cases h : p + e ≤ 0
      · have : Ideal.log ((p + e : ℝ) : EReal) = ⊥ := if_pos h
        rw [this]; exact bot_le
      · rw [log_pos (not_le.1 h)]
        have := Real.log_le_log (not_le.1 h) (by linarith : p + e ≤ (2 : ℝ) ^ (-99 : ℤ))
        rw [Real.log_zpow] at this
        push_cast at this
        exact_mod_cast this
  have h2 : 0 < Real.log 2 := Real.log_pos (by norm_num)
  unfold score
  rw [hg]
  calc Ideal.log (p + eps) + (g : EReal) ≤ ((-99 * Real.log 2 : ℝ) : EReal) + ((24 * Real.log 2 : ℝ) : EReal) :=
        add_le_add hlog (by exact_mod_cast hg1)
    _ = ((-75 * Real.log 2 : ℝ) : EReal) := by rw [← EReal.coe_add]; congr 1; ring
    _ < ((0 : ℝ) : EReal) := EReal.coe_lt_coe_iff.2 (by linarith)
    _ = 0 := rfl

end Cert.Proof.Sampler
-- ==== Proof.FirstMax.lean ====
/-
  The first place of a row's greatest value, which both sides of the sampler's claim compute: the notion, that it is
  one place at most, that it is found block by block, and that the folds the two sides use (a maximum and a least
  column of a block; a fold of value-and-column pairs over a row) find it.
-/
module

public import proofs.«01_k».proof.Proof.Threefry
public import Idealize.ShloMosaic.PureOps
public import Idealize.ShloMosaic.Lib.Pipeline.Value
public import Idealize.ShloMosaic.PureOps.Reduce
public import Idealize.ShloMosaic.PureOps.Ideal.Laws

@[expose] public section

noncomputable section

namespace Cert.Proof.Sampler

open Idealize.ShloMosaic

/-- `j` is the first place, among the first `n`, of the greatest of the values there. -/
structure IsFirst (n : ℕ) (f : ℕ → EReal) (j : ℕ) : Prop where
  lt : j < n
  le : ∀ k < n, f k ≤ f j
  before : ∀ k < j, f k < f j

theorem IsFirst.unique {n : ℕ} {f : ℕ → EReal} {j k : ℕ} (hj : IsFirst n f j) (hk : IsFirst n f k) : j = k := by
  rcases lt_trichotomy j k with h | h | h
  · exact absurd (hk.before j h) (not_lt.2 (hj.le k hk.lt))
  · exact h
  · exact absurd (hj.before k h) (not_lt.2 (hk.le j hj.lt))

/-- A further block whose best is greater takes over. -/
theorem IsFirst.take {n m : ℕ} {f : ℕ → EReal} {j k : ℕ} (hj : IsFirst n f j) (hk : IsFirst m (fun i => f (n + i)) k) (h : f j < f (n + k)) :
    IsFirst (n + m) f (n + k) where
  lt := Nat.add_lt_add_left hk.lt n
  le i hi := by
    rcases lt_or_ge i n with g | g
    · exact (hj.le i g).trans h.le
    · have := hk.le (i - n) (by omega)
      simp only [Nat.add_sub_cancel' g] at this
      exact this
  before i hi := by
    rcases lt_or_ge i n with g | g
    · exact (hj.le i g).trans_lt h
    · have := hk.before (i - n) (by omega)
      simp only [Nat.add_sub_cancel' g] at this
      exact this

/-- A further block whose best is not greater changes nothing. -/
theorem IsFirst.stay {n m : ℕ} {f : ℕ → EReal} {j k : ℕ} (hj : IsFirst n f j) (hk : IsFirst m (fun i => f (n + i)) k) (h : f (n + k) ≤ f j) :
    IsFirst (n + m) f j where
  lt := Nat.lt_add_right m hj.lt
  le i hi := by
    rcases lt_or_ge i n with g | g
    · exact hj.le i g
    · have := hk.le (i - n) (by omega)
      simp only [Nat.add_sub_cancel' g] at this
      exact this.trans h
  before := hj.before

/-! ## A block's maximum and least column -/

theorem minsi_fold {ι : Type} [DecidableEq ι] (s : Finset ι) (b : BitVec 32) (f : ι → BitVec 32) :
    (∀ x ∈ s, (s.fold IntOp.minsi b f).toInt ≤ (f x).toInt) ∧ (s.fold IntOp.minsi b f = b ∨ ∃ x ∈ s, s.fold IntOp.minsi b f = f x) := by
  induction s using Finset.induction_on with
  | empty => exact ⟨fun _ h => absurd h (Finset.notMem_empty _), Or.inl rfl⟩
  | insert a s ha ih =>
    rw [Finset.fold_insert ha]
    obtain ⟨hle, hmem⟩ := ih
    generalize s.fold IntOp.minsi b f = m at hle hmem ⊢
    by_cases h : (f a).slt m = true
    · rw [show IntOp.minsi (f a) m = f a from if_pos h]
      have h' : (f a).toInt < m.toInt := by simpa [BitVec.slt] using h
      refine ⟨fun x hx => ?_, Or.inr ⟨a, Finset.mem_insert_self _ _, rfl⟩⟩
      rcases Finset.mem_insert.1 hx with rfl | hx
      · exact le_refl _
      · exact h'.le.trans (hle x hx)
    · rw [show IntOp.minsi (f a) m = m from if_neg h]
      have h' : m.toInt ≤ (f a).toInt := by simpa [BitVec.slt] using h
      refine ⟨fun x hx => ?_, hmem.imp id fun ⟨x, hx, e⟩ => ⟨x, Finset.mem_insert_of_mem hx, e⟩⟩
      rcases Finset.mem_insert.1 hx with rfl | hx
      · exact h'
      · exact hle x hx

theorem toInt_ofNat_small {n : ℕ} (h : n < 2 ^ 31) : (BitVec.ofNat 32 n).toInt = n := by
  rw [BitVec.toInt_eq_toNat_cond, BitVec.toNat_ofNat]; omega

/-- The greatest value of a set of places, and the least column among the places that have it. -/
theorem block_first {ι : Type} [DecidableEq ι] (s : Finset ι) (n base : ℕ) (hn : 0 < n) (hbase : base + n < 2147483647) (col : ι → ℕ) (v : ι → EReal) (g : ℕ → EReal)
    (hcol : ∀ i ∈ s, col i < n) (hall : ∀ k < n, ∃ i ∈ s, col i = k) (hv : ∀ i ∈ s, v i = g (col i)) (sel : ι → BitVec 32)
    (hsel : ∀ i ∈ s, sel i = if v i = s.fold max ⊥ v then BitVec.ofNat 32 (base + col i) else 2147483647#32) :
    ∃ j, IsFirst n g j ∧ s.fold max ⊥ v = g j ∧ s.fold IntOp.minsi 2147483647#32 sel = BitVec.ofNat 32 (base + j) := by
  set M := s.fold max ⊥ v with hM
  have hle : ∀ i ∈ s, v i ≤ M := ((Finset.fold_max_le M).1 (le_refl _)).2
  have hex : ∃ i ∈ s, v i = M := by
    rcases (Finset.le_fold_max M).1 (le_of_eq hM) with h | ⟨i, hi, h⟩
    · obtain ⟨i, hi, -⟩ := hall 0 hn
      exact ⟨i, hi, le_antisymm (hle i hi) (h.trans bot_le)⟩
    · exact ⟨i, hi, le_antisymm (hle i hi) h⟩
  obtain ⟨i0, hi0, hv0⟩ := hex
  obtain ⟨hmin, hmem⟩ := minsi_fold s 2147483647#32 sel
  have hsome : ∀ i ∈ s, v i = M → sel i = BitVec.ofNat 32 (base + col i) := fun i hi h => by rw [hsel i hi, if_pos h]
  have hlow : ∀ i ∈ s, v i = M → (s.fold IntOp.minsi 2147483647#32 sel).toInt ≤ ((base + col i : ℕ) : ℤ) := fun i hi h => by
    have := hmin i hi
    rwa [hsome i hi h, toInt_ofNat_small (by have := hcol i hi; omega)] at this
  have htop : (2147483647#32 : BitVec 32).toInt = 2147483647 := by decide
  have hc0 := hcol i0 hi0
  have hl0 := hlow i0 hi0 hv0
  obtain ⟨j, hj, hjv, hje⟩ : ∃ i ∈ s, v i = M ∧ s.fold IntOp.minsi 2147483647#32 sel = BitVec.ofNat 32 (base + col i) := by
    rcases hmem with h | ⟨i, hi, h⟩
    · rw [h, htop] at hl0; omega
    · by_cases hvi : v i = M
      · exact ⟨i, hi, hvi, h.trans (hsome i hi hvi)⟩
      · rw [h, hsel i hi, if_neg hvi, htop] at hl0; omega
  have hcj := hcol j hj
  refine ⟨col j, ⟨hcj, fun k hk => ?_, fun k hk => ?_⟩, ?_, hje⟩
  · obtain ⟨i, hi, rfl⟩ := hall k hk
    rw [← hv i hi, ← hv j hj, hjv]; exact hle i hi
  · obtain ⟨i, hi, rfl⟩ := hall k (hk.trans hcj)
    rw [← hv i hi, ← hv j hj, hjv]
    refine lt_of_le_of_ne (hle i hi) fun e => ?_
    have := hlow i hi e
    rw [hje, toInt_ofNat_small (by omega)] at this
    omega
  · rw [← hv j hj, hjv]

/-! ## A fold of value-and-column pairs -/

/-- `p` comes no later than `q`: its value is greater, or it is the same and its column is no greater. -/
def Before (p q : EReal × BitVec 32) : Prop := q.1 < p.1 ∨ (q.1 = p.1 ∧ p.2.toInt ≤ q.2.toInt)

theorem Before.refl (p : EReal × BitVec 32) : Before p p := Or.inr ⟨rfl, le_refl _⟩
theorem Before.trans {p q r : EReal × BitVec 32} (h : Before p q) (h' : Before q r) : Before p r := by
  rcases h with h | ⟨h, g⟩ <;> rcases h' with h' | ⟨h', g'⟩
  · exact Or.inl (h'.trans h)
  · exact Or.inl (h' ▸ h)
  · exact Or.inl (h ▸ h')
  · exact Or.inr ⟨h'.trans h, g.trans g'⟩

theorem fold_pairs (f : EReal × BitVec 32 → EReal × BitVec 32 → EReal × BitVec 32)
    (hf : ∀ p q, (f p q = p ∨ f p q = q) ∧ Before (f p q) p ∧ Before (f p q) q) (l : List (EReal × BitVec 32)) (a : EReal × BitVec 32) :
    (l.foldl f a = a ∨ l.foldl f a ∈ l) ∧ Before (l.foldl f a) a ∧ ∀ p ∈ l, Before (l.foldl f a) p := by
  induction l generalizing a with
  | nil => exact ⟨Or.inl rfl, .refl a, fun _ h => absurd h List.not_mem_nil⟩
  | cons b l ih =>
    obtain ⟨hm, ha, hl⟩ := ih (f a b)
    obtain ⟨g, ga, gb⟩ := hf a b
    refine ⟨?_, ha.trans ga, fun p hp => ?_⟩
    · rcases hm with h | h
      · rcases g with g | g
        · exact Or.inl (h.trans g)
        · exact Or.inr (List.mem_cons.2 (Or.inl (h.trans g)))
      · exact Or.inr (List.mem_cons.2 (Or.inr h))
    · rcases List.mem_cons.1 hp with rfl | hp
      · exact ha.trans gb
      · exact hl p hp

/-- From the least value and column zero, the fold over a row's pairs ends at the first place of the greatest value. -/
theorem fold_first (f : EReal × BitVec 32 → EReal × BitVec 32 → EReal × BitVec 32)
    (hf : ∀ p q, (f p q = p ∨ f p q = q) ∧ Before (f p q) p ∧ Before (f p q) q) (l : List (EReal × BitVec 32)) (n : ℕ) (hn : 0 < n)
    (hbound : n < 2 ^ 31) (g : ℕ → EReal) (hl : ∀ p, p ∈ l ↔ ∃ k < n, p = (g k, BitVec.ofNat 32 k)) :
    ∃ j, IsFirst n g j ∧ (l.foldl f (⊥, 0#32)).2 = BitVec.ofNat 32 j := by
  obtain ⟨hm, ha, hb⟩ := fold_pairs f hf l (⊥, 0#32)
  set R := l.foldl f (⊥, 0#32) with hR
  have hb' : ∀ k < n, Before R (g k, BitVec.ofNat 32 k) := fun k hk => hb _ ((hl _).2 ⟨k, hk, rfl⟩)
  have key : ∃ j < n, R = (g j, BitVec.ofNat 32 j) := by
    rcases hm with h | h
    · refine ⟨0, hn, ?_⟩
      have := hb' 0 hn
      rw [h] at this ⊢
      rcases this with h' | ⟨h', -⟩
      · exact absurd h' not_lt_bot
      · exact Prod.ext h'.symm rfl
    · exact (hl _).1 h
  obtain ⟨j, hj, e⟩ := key
  refine ⟨j, ⟨hj, fun k hk => ?_, fun k hk => ?_⟩, by rw [e]⟩
  · have := hb' k hk
    rw [e] at this
    rcases this with h | ⟨h, -⟩
    · exact h.le
    · exact h.le
  · have := hb' k (hk.trans hj)
    rw [e] at this
    rcases this with h | ⟨-, h⟩
    · exact h
    · simp only [toInt_ofNat_small (show j < 2 ^ 31 by omega), toInt_ofNat_small (show k < 2 ^ 31 by omega)] at h
      omega

/-! ## The rows of scores -/

/-- An array read by row-major position. -/
def flat {s : Shape} (a : s.Idx → EReal) (n : ℕ) : EReal := if h : n < s.numel then a (s.rowMajor.symm ⟨n, h⟩) else 0

theorem shapeCast_flat {s t : Shape} (a : s.Idx → EReal) (h : s.ShapeCasts t) (j : t.Idx) : shapeCast t a h j = flat a (t.rowMajor j).val := by
  have hlt : (t.rowMajor j).val < s.numel := Nat.lt_of_lt_of_eq (t.rowMajor j).isLt h
  rw [flat, dif_pos hlt]
  exact shapeCast_apply a h j _ (by rw [Equiv.apply_symm_apply])

/-- The score of column `k` of row `r`: the weight at that place of the table, with the noise of that place's counter. -/
def rowScore {s : Shape} (a : s.Idx → EReal) (r k : ℕ) : EReal := score (word32 (BitVec.ofNat 32 (800000 * r + k))) (flat a (800000 * r + k))

end Cert.Proof.Sampler
-- ==== Proof.KernelValue.lean ====
/-
  What the sampler's kernel computes, at exact arithmetic: the words of its generator, the score of each element, each
  block's greatest score and the first column that has it, and the running best over the fifty blocks.
-/
module

public import proofs.«01_k».proof.Proof.KernelRun
public import proofs.«01_k».proof.Proof.FirstMax
public import Idealize.ShloMosaic.Lib.Pipeline.Value

@[expose] public section

noncomputable section

namespace Cert.Proof.Sampler

open Cert.KernelIdeal Cert.KernelIdeal.Gen

open Idealize.ShloMosaic
open Idealize.ShloMosaic.TcCoe

/-! ## The words of the generator -/

section Words

variable (i : grid1.Coords) (j : S32x16000.Idx) (a b c : IVec S32x16000 32)

theorem words1 : oddMix (0#32, k1_pay7 i j) = (k1_pay14 i j, k1_pay15 i j) := by
  have h8 : IntOp.addi 0#32 (k1_pay7 i j) = k1_pay8 i j := by
    show _ = IntOp.addi (IntOp.addi (IntOp.muli (k1_pay6 i j) 0#32) 0#32) (k1_pay7 i j)
    rw [show IntOp.muli (k1_pay6 i j) 0#32 = 0#32 from BitVec.mul_zero]; rfl
  have e1 : mix 13 19 (0#32, k1_pay7 i j) = (k1_pay8 i j, k1_pay9 i j) := by
    unfold mix; simp only [h8]; rfl
  have e2 : mix 15 17 (k1_pay8 i j, k1_pay9 i j) = (k1_pay10 i j, k1_pay11 i j) := rfl
  have e3 : mix 26 6 (k1_pay10 i j, k1_pay11 i j) = (k1_pay12 i j, k1_pay13 i j) := rfl
  have e4 : mix 6 26 (k1_pay12 i j, k1_pay13 i j) = (k1_pay14 i j, k1_pay15 i j) := rfl
  rw [oddMix, e1, e2, e3, e4]

theorem words2 : mix 13 19 (inject 466689008#32 0#32 2#32 (evenMix (b j, k1_pay17 a 466689008#32 j)))
    = (k1_pay26 a b 466689008#32 j, k1_pay27 a b 466689008#32 j) := by
  have e1 : mix 17 15 (b j, k1_pay17 a 466689008#32 j) = (k1_pay18 a b 466689008#32 j, k1_pay19 a b 466689008#32 j) := rfl
  have e2 : mix 29 3 (k1_pay18 a b 466689008#32 j, k1_pay19 a b 466689008#32 j)
    = (k1_pay20 a b 466689008#32 j, k1_pay21 a b 466689008#32 j) := rfl
  have e3 : mix 16 16 (k1_pay20 a b 466689008#32 j, k1_pay21 a b 466689008#32 j)
    = (k1_pay22 a b 466689008#32 j, k1_pay23 a b 466689008#32 j) := rfl
  have e4 : inject 466689008#32 0#32 2#32 (mix 24 8 (k1_pay22 a b 466689008#32 j, k1_pay23 a b 466689008#32 j))
    = (IntOp.addi (k1_pay24 a b 466689008#32 j) 466689008#32, k1_pay25 a b 466689008#32 j) := rfl
  rw [evenMix, e1, e2, e3, e4]
  rfl

theorem words3 : mix 29 3 (mix 17 15 (inject 0#32 42#32 3#32 (mix 6 26 (mix 26 6 (b j, k1_pay29 a b j)))))
    = (k1_pay36 a b j, k1_pay37 a b j) := by
  have e1 : mix 26 6 (b j, k1_pay29 a b j) = (k1_pay30 a b j, k1_pay31 a b j) := rfl
  have e2 : inject 0#32 42#32 3#32 (mix 6 26 (k1_pay30 a b j, k1_pay31 a b j))
    = (IntOp.addi (k1_pay32 a b j) 0#32, k1_pay33 a b j) := rfl
  have e3 : mix 17 15 (IntOp.addi (k1_pay32 a b j) 0#32, k1_pay33 a b j) = (k1_pay34 a b j, k1_pay35 a b j) := rfl
  rw [e1, e2, e3]
  rfl

theorem words4 : inject 466689008#32 0#32 5#32 (oddMix (inject 42#32 466689008#32 4#32 (mix 24 8 (a j, k1_pay41 a b c j))))
    = (k1_pay52 a b c j, IntOp.addi (IntOp.addi (k1_pay51 a b c j) 0#32) 5#32) := by
  have e1 : inject 42#32 466689008#32 4#32 (mix 24 8 (a j, k1_pay41 a b c j))
    = (IntOp.addi (k1_pay42 a b c j) 42#32, k1_pay43 a b c j) := rfl
  have e2 : mix 13 19 (IntOp.addi (k1_pay42 a b c j) 42#32, k1_pay43 a b c j) = (k1_pay44 a b c j, k1_pay45 a b c j) := rfl
  have e3 : mix 15 17 (k1_pay44 a b c j, k1_pay45 a b c j) = (k1_pay46 a b c j, k1_pay47 a b c j) := rfl
  have e4 : mix 26 6 (k1_pay46 a b c j, k1_pay47 a b c j) = (k1_pay48 a b c j, k1_pay49 a b c j) := rfl
  have e5 : mix 6 26 (k1_pay48 a b c j, k1_pay49 a b c j) = (k1_pay50 a b c j, k1_pay51 a b c j) := rfl
  rw [e1, oddMix, e2, e3, e4, e5]
  rfl

/-- The block's words are those of its counters. -/
theorem words_val : IntOp.xori (w179 i j) (IntOp.addi (IntOp.addi (w177 i j) 0#32) 5#32) = word32 (k1_pay6 i j) := by
  have h1 : state1 (0#32, IntOp.addi (k1_pay6 i j) 42#32) = (k1_pay16 i j, k1_pay17 (k1_pay15 i) 466689008#32 j) := by
    rw [state1, show IntOp.addi (k1_pay6 i j) 42#32 = k1_pay7 i j from rfl, words1]; rfl
  have h2 : oddMix (state2 (0#32, IntOp.addi (k1_pay6 i j) 42#32))
      = mix 6 26 (mix 26 6 (w89 i j, k1_pay29 (w88 i) (w89 i) j)) := by
    rw [state2, h1, oddMix, words2]; rfl
  have h3 : evenMix (state3 (0#32, IntOp.addi (k1_pay6 i j) 42#32))
      = mix 24 8 (w130 i j, k1_pay41 (w130 i) (w132 i) (w134 i) j) := by
    rw [state3, h2, evenMix, words3]; rfl
  have h4 : state5 (0#32, IntOp.addi (k1_pay6 i j) 42#32) = (w179 i j, IntOp.addi (IntOp.addi (w177 i j) 0#32) 5#32) := by
    rw [state5, state4, h3, words4]; rfl
  rw [word32, h4]

end Words

/-! ## The score of an element -/

/-- The score as the kernel spells it: each negation a difference from zero, the number scaled by one. -/
theorem score_raw (w : BitVec 32) (p : EReal) :
    Ideal.log (p + Ideal.ofBits .f32 0x0DA24260#32)
      + (Ideal.ofBits .f32 0x00000000#32 - Ideal.log (Ideal.ofBits .f32 0x00000000#32
        - Ideal.log (max (Ideal.ofBits .f32 0x00800000#32)
          ((Ideal.ofBits .f32 (IntOp.ori (w >>> 9#32) 0x3F800000#32) - Ideal.ofBits .f32 0x3F800000#32) * Ideal.ofBits .f32 0x3F800000#32
            + Ideal.ofBits .f32 0x00800000#32)))) = score w p := by
  rw [show Ideal.ofBits .f32 (IntOp.ori (w >>> 9#32) 0x3F800000#32) - Ideal.ofBits .f32 0x3F800000#32 = unit w from rfl, Ideal.ofBits_one_f32,
    Ideal.ofBits_zero_f32, mul_one, zero_sub, zero_sub]
  rfl

theorem shapeCast_same {s : Shape} {α : Type} (x : s.Idx → α) (h : s.ShapeCasts s) (j : s.Idx) : shapeCast s x h j = x j :=
  shapeCast_apply x h j j rfl

/-- An element's value in the full pass. -/
theorem val1_apply (w177 w179 : IVec S32x16000 32) (x : Vec Ideal S32x16000 .f32) (j : S32x16000.Idx) :
    k1_pay53 w177 w179 0#32 x j = score (IntOp.xori (w179 j) (IntOp.addi (IntOp.addi (w177 j) 0#32) 5#32)) (x j) := by
  rw [← score_raw, ← shapeCast_same x shapeCasts_S32x16000_S32x16000 j]
  rfl

/-! ## A block's greatest score, and its first column -/

abbrev r0 (r : Fin 32) : S32.Idx := fun | 0 => r
abbrev r1 (r : Fin 32) : S32x1.Idx := fun | 0 => r | 1 => (0 : Fin 1)
abbrev el (r : Fin 32) (k : Fin 16000) : S32x16000.Idx := fun | 0 => r | 1 => k

theorem shapeCast_col {α : Type} (x : S32.Idx → α) (h : S32.ShapeCasts S32x1) (r : Fin 32) : shapeCast S32x1 x h (r1 r) = x (r0 r) :=
  shapeCast_apply x h (r1 r) (r0 r) (by
    rw [show (S32.rowMajor (r0 r)).val = r.val from Shape.rowMajor_val_one (d := ![32]) (r0 r),
      show (S32x1.rowMajor (r1 r)).val = r.val * 1 + 0 from Shape.rowMajor_val_two (d := ![32, 1]) (r1 r)]
    omega)

theorem negInf : Ideal.ofBits .f32 0xFF800000#32 = (⊥ : EReal) := by
  simp [Ideal.ofBits, Ideal.ieee]

theorem drop_iff (j : S32x16000.Idx) (r : Fin 32) : reduces_S32x16000_S32.drop j = r0 r ↔ j 0 = r := by
  constructor
  · intro h
    have := Shape.Reduces.drop_apply_val_of_eq reduces_S32x16000_S32 j 0 0
    rw [h] at this
    exact Fin.ext this.symm
  · intro h
    refine funext fun b => Fin.ext ?_
    obtain rfl : b = 0 := Subsingleton.elim _ _
    exact (Shape.Reduces.drop_apply_val_of_eq reduces_S32x16000_S32 j 0 0).trans (congrArg Fin.val h)

/-- The indices of row `r`. -/
abbrev rowSet (r : Fin 32) : Finset S32x16000.Idx := Finset.univ.filter fun j => reduces_S32x16000_S32.drop j = r0 r

theorem pay54_apply (w177 w179 : IVec S32x16000 32) (x : Vec Ideal S32x16000 .f32) (r : Fin 32) :
    k1_pay54 w177 w179 0#32 x (r1 r) = (rowSet r).fold max ⊥ (k1_pay53 w177 w179 0#32 x) := by
  unfold k1_pay54
  refine (shapeCast_col _ shapeCasts_S32_S32x1 r).trans ?_
  refine (multiReduction_maximumf_eq_fold _ _ _ _ _ _).trans ?_
  rw [show FloatOps.ofBits (F := Ideal) .f32 0xFF800000#32 = (⊥ : EReal) from negInf]
  rfl

/-- The columns a block offers for its least: those with the greatest score, the others the largest word. -/
def offer (t : BitVec 32) (w177 w179 : IVec S32x16000 32) (x : Vec Ideal S32x16000 .f32) (j : S32x16000.Idx) : BitVec 32 :=
  select (cmpf .oeq (k1_pay53 w177 w179 0#32 x) (broadcastTo S32x16000 (k1_pay54 w177 w179 0#32 x) broadcasts_S32x1_S32x16000))
    (addi (iota .tc S32x16000 32 [1] iota_S32x16000_d1_w32) (broadcast S32x16000 (Scalar.muli t 16000#32))) (broadcast S32x16000 2147483647#32) j

theorem pay55_apply (t : BitVec 32) (w177 w179 : IVec S32x16000 32) (x : Vec Ideal S32x16000 .f32) (r : Fin 32) :
    k1_pay55 t (iota .tc S32x16000 32 [1] iota_S32x16000_d1_w32) w177 w179 0#32 x (r1 r) = (rowSet r).fold IntOp.minsi 2147483647#32 (offer t w177 w179 x) := by
  unfold k1_pay55
  refine (shapeCast_col _ shapeCasts_S32_S32x1 r).trans ?_
  exact multiReductionI_eq_fold _ _ _ _ _ _

theorem iota_col (j : S32x16000.Idx) : iota .tc S32x16000 32 [1] iota_S32x16000_d1_w32 j = BitVec.ofNat 32 (j 1).val := by
  unfold iota
  simp only [List.foldl_cons, List.foldl_nil, Nat.zero_mul, Nat.zero_add]
theorem iota_row (j : S32x16000.Idx) : iota .tc S32x16000 32 [0] iota_S32x16000_d0_w32 j = BitVec.ofNat 32 (j 0).val := by
  unfold iota
  simp only [List.foldl_cons, List.foldl_nil, Nat.zero_mul, Nat.zero_add]

theorem offer_apply (n : ℕ) (w177 w179 : IVec S32x16000 32) (x : Vec Ideal S32x16000 .f32) (j : S32x16000.Idx) (r : Fin 32) (hj : j 0 = r) :
    offer (BitVec.ofNat 32 n) w177 w179 x j = if k1_pay53 w177 w179 0#32 x j = (rowSet r).fold max ⊥ (k1_pay53 w177 w179 0#32 x)
      then BitVec.ofNat 32 (16000 * n + (j 1).val) else 2147483647#32 := by
  have hb : broadcastTo S32x16000 (k1_pay54 w177 w179 0#32 x) broadcasts_S32x1_S32x16000 j = (rowSet r).fold max ⊥ (k1_pay53 w177 w179 0#32 x) := by
    rw [← pay54_apply]
    refine broadcastTo_apply _ _ j (r1 r) fun a => ?_
    match a with
    | 0 => exact congrArg Fin.val hj.symm
    | 1 => rfl
  have hc : IntOp.addi (iota .tc S32x16000 32 [1] iota_S32x16000_d1_w32 j) (Scalar.muli (BitVec.ofNat 32 n) 16000#32) = BitVec.ofNat 32 (16000 * n + (j 1).val) := by
    rw [iota_col, show IntOp.addi (BitVec.ofNat 32 (j 1).val) (Scalar.muli (BitVec.ofNat 32 n) 16000#32)
      = BitVec.ofNat 32 (j 1).val + BitVec.ofNat 32 n * 16000#32 from rfl]
    rw [show BitVec.ofNat 32 n * 16000#32 = BitVec.ofNat 32 (n * 16000) from (BitVec.ofNat_mul _ _).symm, ← BitVec.ofNat_add]
    exact congrArg (BitVec.ofNat 32) (by rw [Nat.mul_comm n, Nat.add_comm])
  show Scalar.select (Ideal.cmp .oeq (k1_pay53 w177 w179 0#32 x j) (broadcastTo S32x16000 (k1_pay54 w177 w179 0#32 x) broadcasts_S32x1_S32x16000 j))
    (IntOp.addi (iota .tc S32x16000 32 [1] iota_S32x16000_d1_w32 j) (Scalar.muli (BitVec.ofNat 32 n) 16000#32)) 2147483647#32 = _
  rw [hb, hc]
  by_cases h : k1_pay53 w177 w179 0#32 x j = (rowSet r).fold max ⊥ (k1_pay53 w177 w179 0#32 x)
  · rw [if_pos h, show Ideal.cmp .oeq (k1_pay53 w177 w179 0#32 x j) ((rowSet r).fold max ⊥ (k1_pay53 w177 w179 0#32 x)) = 1#1 by simp [Ideal.cmp, h]]
    rfl
  · rw [if_neg h, show Ideal.cmp .oeq (k1_pay53 w177 w179 0#32 x j) ((rowSet r).fold max ⊥ (k1_pay53 w177 w179 0#32 x)) = 0#1 by simp [Ideal.cmp, h]]
    rfl

/-- A block's greatest score in row `r`, and the first column of the table that has it there. -/
theorem block_val (i : grid1.Coords) (hi : (i 0).val < 50) (x : Vec Ideal S32x16000 .f32) (r : Fin 32) (g : ℕ → EReal)
    (hx : ∀ j : S32x16000.Idx, j 0 = r → score (word32 (k1_pay6 i j)) (x j) = g (j 1).val) :
    ∃ n, IsFirst 16000 g n ∧ blkMax i x (r1 r) = g n ∧ blkArg i x (r1 r) = BitVec.ofNat 32 (16000 * (i 0).val + n) := by
  have hmem : ∀ j, j ∈ rowSet r ↔ j 0 = r := fun j => by rw [Finset.mem_filter, drop_iff]; exact and_iff_right (Finset.mem_univ _)
  obtain ⟨n, hn, hM, hA⟩ := block_first (rowSet r) 16000 (16000 * (i 0).val) (by norm_num) (by omega) (fun j => (j 1).val)
    (k1_pay53 (w177 i) (w179 i) 0#32 x) g (fun j _ => (j 1).isLt) (fun k hk => ⟨el r ⟨k, hk⟩, (hmem _).2 rfl, rfl⟩)
    (fun j hj => by rw [val1_apply, words_val]; exact hx j ((hmem j).1 hj))
    (offer (BitVec.ofNat 32 (i 0).val) (w177 i) (w179 i) x) (fun j hj => offer_apply _ _ _ _ _ r ((hmem j).1 hj))
  exact ⟨n, hn, (pay54_apply _ _ _ r).trans hM, (pay55_apply _ _ _ _ r).trans hA⟩

/-! ## The running best -/

theorem pay6_apply (i : grid1.Coords) (j : S32x16000.Idx) : k1_pay6 i j = BitVec.ofNat 32 (800000 * (j 0).val + (16000 * (i 0).val + (j 1).val)) := by
  show (iota .tc S32x16000 32 [0] iota_S32x16000_d0_w32 j * 800000#32 + iota .tc S32x16000 32 [1] iota_S32x16000_d1_w32 j) + BitVec.ofNat 32 (i 0).val * 16000#32 = _
  rw [iota_col, iota_row, show BitVec.ofNat 32 (j 0).val * 800000#32 = BitVec.ofNat 32 ((j 0).val * 800000) from (BitVec.ofNat_mul _ _).symm,
    show BitVec.ofNat 32 (i 0).val * 16000#32 = BitVec.ofNat 32 ((i 0).val * 16000) from (BitVec.ofNat_mul _ _).symm, ← BitVec.ofNat_add, ← BitVec.ofNat_add]
  congr 1; ring

theorem coords_val : ∀ t : Fin grid1.N, ((grid1.coords t) 0).val = t.val := by decide +kernel

theorem pay1_apply (y : FVec Ideal S32x1 .f32) (j : S32x1.Idx) : k1_pay1 y j = y j := by
  unfold k1_pay1
  rw [shapeCast_same]
theorem pay2_apply (y : IVec S32x1 32) (j : S32x1.Idx) : k1_pay2 y j = y j := by
  unfold k1_pay2
  rw [shapeCast_same]
theorem pay4_apply (y z : FVec Ideal S32x1 .f32) (j : S32x1.Idx) : k1_pay4 y z z j = Scalar.select (Ideal.cmp .ogt (y j) (z j)) (y j) (z j) := by
  unfold k1_pay4
  rw [shapeCast_same]
  rfl
theorem pay5_apply (y z : FVec Ideal S32x1 .f32) (a b : IVec S32x1 32) (j : S32x1.Idx) :
    k1_pay5 y a z b j = Scalar.select (Ideal.cmp .ogt (y j) (z j)) (a j) (b j) := by
  unfold k1_pay5
  rw [shapeCast_same]
  rfl

section Steps

variable (i : grid1.Coords) (x : Vec Ideal S32x16000 .f32) (s : Vec Ideal S32x1 .f32 × Vec Ideal S32x1 .i32) (r : Fin 32)

theorem stepA_fst : (stepA i x).1 (r1 r) = blkMax i x (r1 r) := by
  unfold stepA
  dsimp only
  rw [pay1_apply]
theorem stepA_snd : (stepA i x).2 (r1 r) = blkArg i x (r1 r) := by
  unfold stepA
  dsimp only
  rw [pay2_apply]
theorem stepB_fst : (stepB i x s).1 (r1 r) = Scalar.select (Ideal.cmp .ogt (blkMax i x (r1 r)) (s.1 (r1 r))) (blkMax i x (r1 r)) (s.1 (r1 r)) := by
  unfold stepB
  dsimp only
  rw [pay4_apply]
theorem stepB_snd : (stepB i x s).2 (r1 r) = Scalar.select (Ideal.cmp .ogt (blkMax i x (r1 r)) (s.1 (r1 r))) (blkArg i x (r1 r)) (s.2 (r1 r)) := by
  unfold stepB
  dsimp only
  rw [pay5_apply]

end Steps

section Best

variable (V : (c : Dev nD) → (b : Ref sig .tc) → Buf (Elt Ideal) ((c : Thread nD τ).loc b)) (c : Dev nD)

/-- After `t` blocks the scratch holds the greatest score of the columns seen, and the first column that has it. -/
theorem best_val (r : Fin 32) (g : ℕ → EReal)
    (hg : ∀ (t : Fin cfg1.N) (k : Fin 16000), score (word32 (BitVec.ofNat 32 (800000 * r.val + (16000 * t.val + k.val)))) (xb V c t (el r k)) = g (16000 * t.val + k.val))
    (t : ℕ) (ht : t < 50) :
    ∃ n, IsFirst (16000 * (t + 1)) g n ∧ (best V c (t + 1)).1 (r1 r) = g n ∧ (best V c (t + 1)).2 (r1 r) = BitVec.ofNat 32 n := by
  have hblk : ∀ t : Fin cfg1.N, ∃ n, IsFirst 16000 (fun k => g (16000 * t.val + k)) n ∧ blkMax (grid1.coords t) (xb V c t) (r1 r) = g (16000 * t.val + n)
      ∧ blkArg (grid1.coords t) (xb V c t) (r1 r) = BitVec.ofNat 32 (16000 * t.val + n) := fun t => by
    have hN : t.val < 50 := N_1 ▸ t.isLt
    obtain ⟨n, h1, h2, h3⟩ := block_val (grid1.coords t) (by rw [coords_val]; exact hN) (xb V c t) r (fun k => g (16000 * t.val + k)) (fun j hj => by
      have e : j = el r (j 1) := funext fun | 0 => hj | 1 => rfl
      rw [pay6_apply, coords_val, hj]
      refine Eq.trans ?_ (hg t (j 1))
      rw [← e])
    rw [coords_val] at h3
    exact ⟨n, h1, h2, h3⟩
  induction t with
  | zero =>
    obtain ⟨n, h1, h2, h3⟩ := hblk ⟨0, by rw [show cfg1.N = 50 from N_1]; omega⟩
    simp only [Nat.mul_zero, Nat.zero_add] at h1 h2 h3
    refine ⟨n, h1, ?_, ?_⟩
    · exact (congrArg (fun s => s.1 (r1 r)) (best_zero V c ⟨0, _⟩ rfl)).trans ((stepA_fst _ _ r).trans h2)
    · exact (congrArg (fun s => s.2 (r1 r)) (best_zero V c ⟨0, _⟩ rfl)).trans ((stepA_snd _ _ r).trans h3)
  | succ t ih =>
    obtain ⟨m, hm, hm1, hm2⟩ := ih (by omega)
    have hlt : t + 1 < cfg1.N := by rw [show cfg1.N = 50 from N_1]; omega
    obtain ⟨n, h1, h2, h3⟩ := hblk ⟨t + 1, hlt⟩
    have e := best_succ V c ⟨t + 1, hlt⟩ (Nat.succ_ne_zero t)
    have e1 := (congrArg (fun s => s.1 (r1 r)) e).trans (stepB_fst _ _ _ r)
    have e2 := (congrArg (fun s => s.2 (r1 r)) e).trans (stepB_snd _ _ _ r)
    simp only [hm1, hm2, h2, h3] at e1 e2
    rw [show 16000 * (t + 1 + 1) = 16000 * (t + 1) + 16000 by ring]
    by_cases h : g m < g (16000 * (t + 1) + n)
    · refine ⟨16000 * (t + 1) + n, hm.take h1 h, e1.trans ?_, e2.trans ?_⟩
      · rw [show Ideal.cmp .ogt (g (16000 * (t + 1) + n)) (g m) = 1#1 by simp [Ideal.cmp, h]]; rfl
      · rw [show Ideal.cmp .ogt (g (16000 * (t + 1) + n)) (g m) = 1#1 by simp [Ideal.cmp, h]]; rfl
    · refine ⟨m, hm.stay h1 (not_lt.1 h), e1.trans ?_, e2.trans ?_⟩
      · rw [show Ideal.cmp .ogt (g (16000 * (t + 1) + n)) (g m) = 0#1 by simp [Ideal.cmp, h]]; rfl
      · rw [show Ideal.cmp .ogt (g (16000 * (t + 1) + n)) (g m) = 0#1 by simp [Ideal.cmp, h]]; rfl

end Best

end Cert.Proof.Sampler
-- ==== Proof.KernelOk.lean ====
/-
  The sampler's fast path is never taken: the candidates' weights are zeros (or minus one), so each score is negative,
  every row's threshold is positive, and the word that the branch is taken on is zero.
-/
module

public import proofs.«01_k».proof.Proof.KernelValue

@[expose] public section

noncomputable section

namespace Cert.Proof.Sampler

open Cert.KernelIdeal Cert.KernelIdeal.Gen

open Idealize.ShloMosaic
open Idealize.ShloMosaic.TcCoe Idealize.ShloMosaic.Tactic
open Idealize.ShloMosaic.StableHlo (after)
open Idealize.ShloMosaic.Pipeline (Dat)

/-! ## What the first region stores -/

section Read

variable {F : FTy → Type} [FloatOps F] (c : Dev nD)

theorem hz3 : (![0, 0, 0] : Fin 3 → Nat) = fun _ => 0 := funext fun a => by fin_cases a <;> rfl

abbrev ldp (M : Memref sig .tc .vmem S32x128x128 .f32) (f : Bf (F := F) c M) : Vec F S32x128x128 .f32 :=
  M.view.readAt (Elt F) (Rect.unit (s := S32x128x128) ![0, 0, 0] S32x128x128.size inb_S32x128x128_S32x128x128_0_0_0).toLoadRect f
theorem ldp_eq (M : Memref sig .tc .vmem S32x128x128 .f32) (f : Bf (F := F) c M) : ldp c M f = M.view.read (Elt F) f := by
  unfold ldp; rw [View.readAt_eq_ld, View.ld_unit_zero (S := S32x128x128) hz3]

/-- The words of the generator along the way, and the last two, of the candidates' columns. -/
def o83 (v0 : Vec F S32x128 .i32) : IVec S32x128 32 := k0_pay22 (k0_pay10 v0) (k0_pay11 v0)
def o85 (v0 : Vec F S32x128 .i32) : IVec S32x128 32 := k0_pay23 (k0_pay10 v0) (k0_pay11 v0)
def o130 (v0 : Vec F S32x128 .i32) : IVec S32x128 32 := k0_pay35 (o83 v0) (o85 v0) k0_pay24
def o131 (v0 : Vec F S32x128 .i32) : IVec S32x128 32 := k0_pay36 (o83 v0) (o85 v0) k0_pay24
def o172 (v0 : Vec F S32x128 .i32) : IVec S32x128 32 := k0_pay46 (o130 v0) (o131 v0) 29#32
def o177 (v0 : Vec F S32x128 .i32) : IVec S32x128 32 := k0_pay47 (o130 v0) (o131 v0) 29#32

/-- The second result, of the candidates' best scores and the thresholds. -/
def okBlk (v0 : Vec F S32x128 .i32) (x : Vec F S32x128x128 .f32) (t : Vec F S32x1 .f32) : IVec S32x1 32 :=
  k0_pay2 (k0_pay49 (k0_pay3 v0 x) (o172 v0) (o177 v0)) t

abbrev ldi (M : Memref sig .tc .vmem S32x128 .i32) (f : Bf (F := F) c M) : Vec F S32x128 .i32 :=
  M.view.readAt (Elt F) (Rect.unit (s := S32x128) ![0, 0] S32x128.size inb_S32x128_S32x128_0_0).toLoadRect f

theorem reduce_ok (M0 : Memref sig .tc .vmem S32x128x128 .f32) (h0 : M0.IsWhole)
    (M1 : Memref sig .tc .vmem S32x128 .i32) (h1 : M1.IsWhole) (M2 : Memref sig .tc .vmem S32x1 .f32) (h2 : M2.IsWhole)
    (M3 : Memref sig .tc .vmem S32x1 .i32) (h3 : M3.IsWhole) (M4 : Memref sig .tc .vmem S32x1 .i32) (h4 : M4.IsWhole)
    (f0 : Bf (F := F) c M0) (f1 : Bf (F := F) c M1) (f2 : Bf (F := F) c M2) :
    M4.view.read (Elt F) (reduceRun c M0 h0 M1 h1 M2 h2 M3 h3 M4 h4 f0 f1 f2).1.2
      = okBlk (ldi c M1 f1) (M0.view.read (Elt F) f0) (M2.view.read (Elt F) f2) := by
  rw [← ldp_eq c M0 f0, ← lds_eq c M2 f2]
  dsimp only; unfold reduceRun; dsimp only; sl_unfold_words
  refine (rd_st c M4 _ _).trans ?_
  dsimp only [okBlk, o177, o172, o131, o130, o85, o83]

end Read

/-! ## Its value at zero weights -/

section Value

/-- The generator's words of the candidates, of the last words of the rounds before. -/
def lastWords (a b : IVec S32x128 32) : IVec S32x128 32 :=
  xori (addi (addi a (xori a b)) (broadcast S32x128 466689008#32))
    (addi (addi (xori (addi a (xori a b)) (ori (shli (xori a b) (broadcast S32x128 6#32)) (shrui (xori a b) (broadcast S32x128 26#32))))
      (broadcast S32x128 0#32)) (broadcast S32x128 5#32))

variable (a b : FVec Ideal S32x128 .f32) (j : S32x128.Idx)

theorem sum_apply : addf a b j = (a j + b j : EReal) := rfl
theorem weight_apply : log (addf a (broadcast S32x128 (FloatOps.ofBits (F := Ideal) .f32 0x0DA24260#32))) j
    = Ideal.log (a j + Ideal.ofBits .f32 0x0DA24260#32) := rfl
theorem unit_apply (X : IVec S32x128 32) :
    mulf (subf (bitcastToFloat (F := Ideal) .f32 X) (broadcast S32x128 (FloatOps.ofBits .f32 0x3F800000#32)))
      (broadcast S32x128 (FloatOps.ofBits .f32 0x3F800000#32)) j
      = ((Ideal.ofBits .f32 (X j) - Ideal.ofBits .f32 0x3F800000#32) * Ideal.ofBits .f32 0x3F800000#32 : EReal) := rfl
theorem shift_apply : maximumf (broadcast S32x128 (FloatOps.ofBits (F := Ideal) .f32 0x00800000#32))
      (addf a (broadcast S32x128 (FloatOps.ofBits .f32 0x00800000#32))) j
    = max (Ideal.ofBits .f32 0x00800000#32) (a j + Ideal.ofBits .f32 0x00800000#32 : EReal) := rfl
theorem noise_apply : subf (broadcast S32x128 (FloatOps.ofBits (F := Ideal) .f32 0x00000000#32))
      (log (subf (broadcast S32x128 (FloatOps.ofBits .f32 0x00000000#32)) (log a))) j
    = (Ideal.ofBits .f32 0x00000000#32 - Ideal.log (Ideal.ofBits .f32 0x00000000#32 - Ideal.log (a j)) : EReal) := rfl
theorem bits_apply (W : IVec S32x128 32) : ori (shrui W (broadcast S32x128 9#32)) (broadcast S32x128 0x3F800000#32) j
    = IntOp.ori (W j >>> 9#32) 0x3F800000#32 := rfl

theorem pay48_apply (v11 : FVec Ideal S32x128 .f32) (p q : IVec S32x128 32) : k0_pay48 v11 p q j = score (lastWords p q j) (v11 j) := by
  generalize hW : lastWords p q = W
  unfold lastWords at hW
  unfold k0_pay48
  rw [hW, ← score_raw, ← bits_apply]
  exact (sum_apply _ _ j).trans (congrArg₂ (fun x y : EReal => x + y) (weight_apply v11 j) ((noise_apply _ j).trans
    (congrArg (fun y : EReal => Ideal.ofBits .f32 0x00000000#32 - Ideal.log (Ideal.ofBits .f32 0x00000000#32 - Ideal.log y))
      ((shift_apply _ j).trans (congrArg (fun y : EReal => max (Ideal.ofBits .f32 0x00800000#32) (y + Ideal.ofBits .f32 0x00800000#32))
        (unit_apply j _))))))

theorem minusOne : Ideal.ofBits .f32 0xBF800000#32 ≤ (0 : EReal) := by
  rw [show Ideal.ofBits .f32 0xBF800000#32 = ((-1 : ℝ) : EReal) by
    simp [Ideal.ofBits, Ideal.ieee]
    rw [← EReal.coe_mul, ← EReal.coe_one]
    norm_num]
  exact EReal.coe_le_coe_iff.2 (by norm_num)

/-- The selected weight of a candidate is at most zero where every weight is. -/
theorem pay3_le (v0 : IVec S32x128 32) (x : Vec Ideal S32x128x128 .f32) (hx : ∀ j, x j ≤ (0 : EReal)) (j : S32x128.Idx) :
    k0_pay3 (F := Ideal) v0 x j ≤ (0 : EReal) := by
  unfold k0_pay3
  refine (multiReduction_maximumf_eq_fold _ _ _ _ _ _).trans_le ?_
  rw [show FloatOps.ofBits (F := Ideal) .f32 0xFF800000#32 = (⊥ : EReal) from negInf]
  refine (Finset.fold_max_le _).2 ⟨bot_le, fun i _ => ?_⟩
  dsimp only [select, Scalar.select]
  split
  · rw [shapeCast_same]; exact hx i
  · exact minusOne

/-- A row's best score is then negative. -/
theorem pay49_neg (v11 : FVec Ideal S32x128 .f32) (a b : IVec S32x128 32) (h : ∀ j, v11 j ≤ (0 : EReal)) (r : Fin 32) :
    k0_pay49 v11 a b (r1 r) < (0 : EReal) := by
  unfold k0_pay49
  refine (shapeCast_col _ shapeCasts_S32_S32x1 r).trans_lt ?_
  refine (multiReduction_maximumf_eq_fold _ _ _ _ _ _).trans_lt ?_
  rw [show FloatOps.ofBits (F := Ideal) .f32 0xFF800000#32 = (⊥ : EReal) from negInf]
  refine (Finset.fold_max_lt _).2 ⟨EReal.bot_lt_zero, fun i _ => ?_⟩
  rw [pay48_apply]
  exact score_neg _ (h i)

theorem pay2_zero (v : FVec Ideal S32x1 .f32) (t : Vec Ideal S32x1 .f32) (j : S32x1.Idx) (h : v j < t j) : k0_pay2 v t j = 0#32 := by
  show (Ideal.cmp .oge (v j) (t j)).setWidth 32 = 0#32
  rw [show Ideal.cmp .oge (v j) (t j) = 0#1 by simp [Ideal.cmp, not_le.2 h]]
  rfl

end Value

/-! ## The region's second result -/

section Region

variable {F : FTy → Type} [FloatOps F] (V : (c : Dev nD) → (b : Ref sig .tc) → Buf (Elt F) ((c : Thread nD τ).loc b)) (c : Dev nD)

/-- The one write-back covers the second result's array. -/
theorem ok0_eq : ok0 V c = okBlk (ldi c (win0_1.stage 0) (stg0_1 V c)) (stg0_0 V c) (stg0_2 V c) :=
  (dat0 V c).arrAt_eq_of_cover 4 (okBlk (ldi c (win0_1.stage 0) (stg0_1 V c)) (stg0_0 V c) (stg0_2 V c))
    (fun t _ => by
      obtain rfl := fin_N0 t
      have e : (K0 V c).1.2 = okBlk (ldi c (win0_1.stage 0) (stg0_1 V c)) (stg0_0 V c) (stg0_2 V c) :=
        reduce_ok c (win0_0.stage 0) (hstage0_0 0) (win0_1.stage 0) (hstage0_1 0) (win0_2.stage 0) (hstage0_2 0)
          (win0_3.stage 0) (hstage0_3 0) (win0_4.stage 0) (hstage0_4 0) (stg0_0 V c) (stg0_1 V c) (stg0_2 V c)
      show (cfg0.win 4).cut (grid0.coords t0_0) (K0 V c).1.2 = _
      rw [e]
      have hz' : (fun a => win0_4.index t0_0 a * main_v1_1.ty.shape.size a) = fun _ => 0 := funext fun a => by fin_cases a <;> decide
      exact (Memref.read_access_unit_zero (Elt F) main_v1_1 hz' (fun a => by rw [congrFun hz' a]; simp) _).symm)
    fun i => ⟨t0_0, flush0_4 t0_0, by
      show i ∈ ((View.whole main_v1_1).slice (win0_4.rect t0_0)).set
      rw [View.set_slice_whole, Rect.mem_set_unit]
      intro a
      have h0 : (i 0 : Nat) < 32 := (i 0).isLt
      have h1 : (i 1 : Nat) < 1 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 32 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 1 from by decide +kernel]; omega⟩

theorem thr_apply : stg0_2 V c (r1 0) = V c main_cst (r1 0) := by
  have hi : win0_2.index t0_0 0 = 0 ∧ win0_2.index t0_0 1 = 0 := by decide +kernel
  unfold stg0_2; rw [View.read_apply]
  refine congrArg (V c main_cst) (funext fun a => Fin.ext ?_)
  match a with
  | ⟨0, _⟩ => show win0_2.index t0_0 0 * 32 + 1 * 0 = 0; rw [hi.1]
  | ⟨1, _⟩ => show win0_2.index t0_0 1 * 1 + 1 * 0 = 0; rw [hi.2]

end Region

/-! ## The branch -/

section Branch

variable (m : (ℓ : Loc nD τ sig) → Buf (Elt Ideal) ℓ) (c : Dev nD)

theorem Wa_v0 (j : S32x128x128.Idx) : (Wa m c main_v0 : S32x128x128.Idx → EReal) j = (0 : EReal) := by
  have e : (Wa m c main_v0 : S32x128x128.Idx → EReal) = broadcastInDim S32x128x128 ![] bcast_S_S32x128x128 (constant (F := Ideal) S_ .f32 0x00000000#32) := by
    unfold Wa
    after_results
  rw [e]
  exact Ideal.ofBits_zero_f32

theorem Wa_cst : (Wa m c main_cst : S32x1.Idx → EReal) = fun i => Ideal.ofBits .f32 (lit1 (S32x1.rowMajor i)) := by
  unfold Wa
  after_results
  rfl

theorem thr_pos : (0 : EReal) < Ideal.ofBits .f32 0x410BBB4A#32 := by
  simp [Ideal.ofBits, Ideal.ieee]
  rw [← EReal.coe_mul]
  exact EReal.coe_pos.2 (by norm_num)

theorem ok_zero : ok0 (atTc (Wa m)) c (r1 0) = 0#32 := by
  rw [ok0_eq]
  refine pay2_zero _ _ _ ?_
  refine (pay49_neg _ _ _ (fun j => pay3_le _ _ (fun i => ?_) j) 0).trans ?_
  · unfold stg0_0
    rw [View.read_apply]
    exact le_of_eq (α := EReal) (Wa_v0 m c _)
  · rw [thr_apply]
    show (0 : EReal) < Wa m c main_cst (r1 0)
    rw [Wa_cst]
    exact thr_pos

/-- What the branch's predicate is of the second result. -/
theorem all_ok (V : Valuation τ sig (Elt Ideal)) : after hostOps1 V main_v6
    = Host.reduce IntOp.andi (cmpi .sgt (shapeCast S32 (V main_v1_1 : S32x1.Idx → BitVec 32) shapeCasts_S32x1_S32)
        (broadcastInDim S32 ![] bcast_S_S32 (constantI S_ 32 0#32))) (constantI S_ 1 1#1) reducesTo_S32_S_d0 h_S_ := by
  after_results
  rfl

/-- A conjunction with a false member is false. -/
theorem fold_andi {ι : Type} [DecidableEq ι] (s : Finset ι) (f : ι → BitVec 1) (b : BitVec 1) (i : ι) (hi : i ∈ s) (h : f i = 0#1) :
    s.fold IntOp.andi b f = 0#1 := by
  rw [← Finset.insert_erase hi, Finset.fold_insert (Finset.notMem_erase i s), h]
  exact BitVec.zero_and

theorem v6_zero : (Wc m c main_v6 : S_.Idx → BitVec 1) = fun _ => 0#1 := by
  unfold Wc
  rw [all_ok]
  refine funext fun j => ?_
  rw [Host.reduce_eq_fold]
  refine fold_andi _ _ _ (r0 0) (Finset.mem_filter.2 ⟨Finset.mem_univ _, Subsingleton.elim _ _⟩) ?_
  show IntOp.cmpi .sgt (shapeCast S32 (Wb m c main_v1_1 : S32x1.Idx → BitVec 32) shapeCasts_S32x1_S32 (r0 0)) 0#32 = 0#1
  rw [shapeCast_apply _ shapeCasts_S32x1_S32 (r0 0) (r1 0) (by
    rw [show (S32.rowMajor (r0 0)).val = 0 from Shape.rowMajor_val_one (d := ![32]) (r0 0),
      show (S32x1.rowMajor (r1 0)).val = 0 * 1 + 0 from Shape.rowMajor_val_two (d := ![32, 1]) (r1 0)])]
  rw [Wb_ok, ok_zero]
  rfl

/-- The full pass runs. -/
theorem word_zero : word m c = 0#32 := by
  have e : Wd m c main_v7 = extui 32 (Wc m c main_v6 : S_.Idx → BitVec 1) natLt_1_32 := by
    unfold Wd
    after_results
  unfold word
  rw [e, v6_zero]
  rfl

theorem Wg_eq : Wg m c = Warm m 0 c := by
  unfold Wg
  rw [word_zero]
  rfl

end Branch

end Cert.Proof.Sampler

end
-- ==== Proof.ReferenceRun.lean ====
/-
  The reference's run. The program is a line of host operations, each of which writes a buffer of its own that nothing
  before it wrote and nothing before it read. So the contents after the whole line are a fixed point of every operation
  of it (`fix_of_chain`), and what a buffer holds at the end is its operation's function of what the operands hold at
  the end: the equations of the program, one per operation, read at any element wanted.
-/
module

public import proofs.«01_k».proof.Proof.Gen.ReferenceIdeal
public import proofs.«01_k».proof.Proof.Threefry
public import proofs.«01_k».proof.Defs
public import Idealize.ShloMosaic.Lib.StableHlo.Run
public import Idealize.ShloMosaic.Lib.StableHlo.RunHlo

@[expose] public section

noncomputable section

namespace Cert.Proof.Sampler.Host

open Cert.ReferenceIdeal Cert.ReferenceIdeal.Gen Idealize.ShloMosaic Idealize.ShloMosaic.TcCoe Idealize.SL.Sem Idealize.ShloMosaic.StableHlo

variable {F : FTy → Type} [FloatOps F]

/-! ## Lines that write each buffer once -/

/-- A reference's number: its index. -/
abbrev key (r : Ref sig .tc) : ℕ := r.idx.val

/-- The operation writes a reference numbered `n` and reads references numbered below. -/
structure Ok (n : ℕ) (op : HloOp τ sig (Elt F)) : Prop where
  writes : ∃ y : Ref sig .tc, op.writes = {Proc.devRef .tc y} ∧ key y = n
  bufs : ∀ b ∈ op.bufs, ∃ r : Ref sig .tc, b = Proc.devRef .tc r ∧ key r ≤ n
  fresh : op.fresh = ∅
  again : ∀ V, op.result (op.result V) = op.result V

/-- The operations write the references numbered from `n` on, in order. -/
def Chain : ℕ → List (HloOp τ sig (Elt F)) → Prop
  | _, [] => True
  | n, op :: ops => Ok n op ∧ Chain (n + 1) ops

theorem chain_append {n : ℕ} {A B : List (HloOp τ sig (Elt F))} (hA : Chain n A) (hB : Chain (n + A.length) B) : Chain n (A ++ B) := by
  induction A generalizing n with
  | nil => simpa using hB
  | cons op A ih => exact ⟨hA.1, ih hA.2 (by rw [show n + 1 + A.length = n + (op :: A).length by simp; omega]; exact hB)⟩

/-- A buffer numbered below the line's first keeps its contents. -/
theorem after_low {n : ℕ} {ops : List (HloOp τ sig (Elt F))} (h : Chain n ops) (V : Valuation τ sig (Elt F)) (r : Ref sig .tc) (hr : key r < n) :
    after ops V (Proc.devRef .tc r) = V (Proc.devRef .tc r) := by
  induction ops generalizing n V with
  | nil => rfl
  | cons op ops ih =>
    obtain ⟨y, hy, hk⟩ := h.1.writes
    rw [after_cons, ih h.2 _ (by omega)]
    exact op.result_of_not_mem V (by rw [hy, Finset.mem_singleton]; exact devRef_ne_of_ne fun e => by subst e; omega)

/-- The contents after the line are a fixed point of each operation of it. -/
theorem fix_of_chain {n : ℕ} {ops : List (HloOp τ sig (Elt F))} (h : Chain n ops) (V : Valuation τ sig (Elt F)) :
    ∀ op ∈ ops, op.result (after ops V) = after ops V := by
  induction ops generalizing n V with
  | nil => exact fun _ h => nomatch h
  | cons op ops ih =>
    intro o ho
    rcases List.mem_cons.mp ho with rfl | ho
    · obtain ⟨y, hy, hk⟩ := h.1.writes
      have hag : ∀ b ∈ o.bufs, after (o :: ops) V b = o.result V b := fun b hb => by
        obtain ⟨r, rfl, hr⟩ := h.1.bufs b hb
        exact after_low h.2 _ r (by omega)
      funext b
      by_cases hb : b ∈ o.writes
      · have hb' := o.writes_sub hb
        rw [o.result_congr hag b hb', h.1.again V, hag b hb']
      · exact o.result_of_not_mem _ hb
    · exact ih h.2 _ o ho

theorem forall_of_chain {n : ℕ} {ops : List (HloOp τ sig (Elt F))} (h : Chain n ops) :
    (ops.Forall fun op => op.bufs ⊆ tcRefs τ sig) ∧ ∀ op ∈ ops, op.fresh = ∅ := by
  rw [List.forall_iff_forall_mem]
  induction ops generalizing n with
  | nil => exact ⟨fun _ h => (nomatch h), fun _ h => (nomatch h)⟩
  | cons op ops ih =>
    refine ⟨fun o ho => ?_, fun o ho => ?_⟩
    · rcases List.mem_cons.mp ho with rfl | ho
      · exact fun b hb => by obtain ⟨r, rfl, -⟩ := h.1.bufs b hb; exact devRef_mem_tcRefs r
      · exact (ih h.2).1 o ho
    · rcases List.mem_cons.mp ho with rfl | ho
      · exact h.1.fresh
      · exact (ih h.2).2 o ho

section Builders

variable {Ta Tb Tc Te Ty : BufTy} {n : ℕ} (a : TRef sig Ta) (b : TRef sig Tb) (c : TRef sig Tc) (e : TRef sig Te) (y : TRef sig Ty)

/-- A reference numbered below is another buffer. -/
theorem not_mem {n : ℕ} {r y : Ref sig .tc} (hy : key y = n) (hr : key r < n) : Proc.devRef (τ := τ) .tc r ∉ ({Proc.devRef .tc y} : Finset (DevRef τ sig)) := by
  rw [Finset.mem_singleton]; exact devRef_ne_of_ne fun e => by subst e; omega

theorem nullary_ok (v : Ty.Contents (Elt F)) (hy : key y.ref = n) : Ok n (TRef.nullary (τ := τ) y v) where
  writes := ⟨y.ref, rfl, hy⟩
  bufs x hx := ⟨y.ref, Finset.mem_singleton.mp hx, hy.le⟩
  fresh := rfl
  again V := by
    funext x
    by_cases hx : x ∈ (TRef.nullary (τ := τ) y v).writes
    · obtain rfl := Finset.mem_singleton.mp hx
      rw [nullary_result, nullary_result]
    · exact HloOp.result_of_not_mem _ _ hx

theorem unary_ok (f : Ta.Contents (Elt F) → Ty.Contents (Elt F)) (hy : key y.ref = n) (ha : key a.ref < n) : Ok n (TRef.unary (τ := τ) a y f) where
  writes := ⟨y.ref, rfl, hy⟩
  bufs x hx := by
    have hx : x ∈ ({Proc.devRef .tc a.ref, Proc.devRef .tc y.ref} : Finset (DevRef τ sig)) := hx
    simp only [Finset.mem_insert, Finset.mem_singleton] at hx
    rcases hx with rfl | rfl
    exacts [⟨_, rfl, ha.le⟩, ⟨_, rfl, hy.le⟩]
  fresh := rfl
  again V := by
    funext x
    by_cases hx : x ∈ (TRef.unary (τ := τ) a y f).writes
    · obtain rfl := Finset.mem_singleton.mp hx
      rw [unary_result, unary_result, HloOp.result_of_not_mem _ _ (not_mem hy ha)]
    · exact HloOp.result_of_not_mem _ _ hx

theorem binary_ok (f : Ta.Contents (Elt F) → Tb.Contents (Elt F) → Ty.Contents (Elt F)) (hy : key y.ref = n) (ha : key a.ref < n) (hb : key b.ref < n) :
    Ok n (TRef.binary (τ := τ) a b y f) where
  writes := ⟨y.ref, rfl, hy⟩
  bufs x hx := by
    have hx : x ∈ ({Proc.devRef .tc a.ref, Proc.devRef .tc b.ref, Proc.devRef .tc y.ref} : Finset (DevRef τ sig)) := hx
    simp only [Finset.mem_insert, Finset.mem_singleton] at hx
    rcases hx with rfl | rfl | rfl
    exacts [⟨_, rfl, ha.le⟩, ⟨_, rfl, hb.le⟩, ⟨_, rfl, hy.le⟩]
  fresh := rfl
  again V := by
    funext x
    by_cases hx : x ∈ (TRef.binary (τ := τ) a b y f).writes
    · obtain rfl := Finset.mem_singleton.mp hx
      rw [binary_result, binary_result, HloOp.result_of_not_mem _ _ (not_mem hy ha), HloOp.result_of_not_mem _ _ (not_mem hy hb)]
    · exact HloOp.result_of_not_mem _ _ hx

theorem quaternary_ok (f : Ta.Contents (Elt F) → Tb.Contents (Elt F) → Tc.Contents (Elt F) → Te.Contents (Elt F) → Ty.Contents (Elt F)) (hy : key y.ref = n)
    (ha : key a.ref < n) (hb : key b.ref < n) (hc : key c.ref < n) (he : key e.ref < n) : Ok n (TRef.quaternary (τ := τ) a b c e y f) where
  writes := ⟨y.ref, rfl, hy⟩
  bufs x hx := by
    have hx : x ∈ ({Proc.devRef .tc a.ref, Proc.devRef .tc b.ref, Proc.devRef .tc c.ref, Proc.devRef .tc e.ref, Proc.devRef .tc y.ref} : Finset (DevRef τ sig)) := hx
    simp only [Finset.mem_insert, Finset.mem_singleton] at hx
    rcases hx with rfl | rfl | rfl | rfl | rfl
    exacts [⟨_, rfl, ha.le⟩, ⟨_, rfl, hb.le⟩, ⟨_, rfl, hc.le⟩, ⟨_, rfl, he.le⟩, ⟨_, rfl, hy.le⟩]
  fresh := rfl
  again V := by
    funext x
    by_cases hx : x ∈ (TRef.quaternary (τ := τ) a b c e y f).writes
    · obtain rfl := Finset.mem_singleton.mp hx
      rw [quaternary_result, quaternary_result, HloOp.result_of_not_mem _ _ (not_mem hy ha), HloOp.result_of_not_mem _ _ (not_mem hy hb),
        HloOp.result_of_not_mem _ _ (not_mem hy hc), HloOp.result_of_not_mem _ _ (not_mem hy he)]
    · exact HloOp.result_of_not_mem _ _ hx

/-- A reshape of a value of one element type. -/
abbrev shaped {s t : Shape} {ε : EltTy} (x : TRef sig ⟨s, ε⟩) (y : TRef sig ⟨t, ε⟩) (h : s.ShapeCasts t) : HloOp τ sig (Elt F) :=
  TRef.reshape x y (rfl : ε = ε) h

theorem reshape_ok (he : Ta.elt = Ty.elt) (hn : Ta.shape.ShapeCasts Ty.shape) (hy : key y.ref = n) (ha : key a.ref < n) :
    Ok (F := F) n (TRef.reshape (τ := τ) a y he hn) where
  writes := ⟨y.ref, rfl, hy⟩
  bufs x hx := by
    have hx : x ∈ ({Proc.devRef .tc a.ref, Proc.devRef .tc y.ref} : Finset (DevRef τ sig)) := hx
    simp only [Finset.mem_insert, Finset.mem_singleton] at hx
    rcases hx with rfl | rfl
    exacts [⟨_, rfl, ha.le⟩, ⟨_, rfl, hy.le⟩]
  fresh := rfl
  again V := by
    funext x
    by_cases hx : x ∈ (TRef.reshape (τ := τ) (Val := Elt F) a y he hn).writes
    · obtain rfl := Finset.mem_singleton.mp hx
      rw [reshape_result, reshape_result, HloOp.result_of_not_mem _ _ (not_mem hy ha)]
    · exact HloOp.result_of_not_mem _ _ hx

/-- The value a typed reference's buffer holds. -/
def tv (V : Valuation τ sig (Elt F)) {T : BufTy} (x : TRef sig T) : T.Contents (Elt F) := x.ofBuf (V (Proc.devRef .tc x.ref))

variable {V : Valuation τ sig (Elt F)}

theorem tv_nullary {v : Ty.Contents (Elt F)} (h : (TRef.nullary (τ := τ) y v).result V = V) : tv V y = v := by
  unfold tv; rw [← congrFun h (Proc.devRef .tc y.ref), nullary_result, TRef.ofBuf_toBuf]

theorem tv_unary {f : Ta.Contents (Elt F) → Ty.Contents (Elt F)} (h : (TRef.unary (τ := τ) a y f).result V = V) : tv V y = f (tv V a) := by
  unfold tv
  rw [← congrFun h (Proc.devRef .tc y.ref), unary_result, TRef.ofBuf_toBuf]

theorem tv_binary {f : Ta.Contents (Elt F) → Tb.Contents (Elt F) → Ty.Contents (Elt F)} (h : (TRef.binary (τ := τ) a b y f).result V = V) :
    tv V y = f (tv V a) (tv V b) := by
  unfold tv
  rw [← congrFun h (Proc.devRef .tc y.ref), binary_result, TRef.ofBuf_toBuf]

theorem tv_quaternary {f : Ta.Contents (Elt F) → Tb.Contents (Elt F) → Tc.Contents (Elt F) → Te.Contents (Elt F) → Ty.Contents (Elt F)}
    (h : (TRef.quaternary (τ := τ) a b c e y f).result V = V) : tv V y = f (tv V a) (tv V b) (tv V c) (tv V e) := by
  unfold tv
  rw [← congrFun h (Proc.devRef .tc y.ref), quaternary_result, TRef.ofBuf_toBuf]

theorem tv_reshape (he : Ta.elt = Ty.elt) (hn : Ta.shape.ShapeCasts Ty.shape) (h : (TRef.reshape (τ := τ) a y he hn).result V = V) :
    tv V y = fun i => he ▸ shapeCast Ty.shape (tv V a) hn i := by
  obtain ⟨ra, rfl, _, _⟩ := a
  obtain ⟨ry, rfl, _, _⟩ := y
  show V (Proc.devRef .tc ry) = _
  rw [← congrFun h (Proc.devRef .tc ry), reshape_result]; rfl

/-- The same for one element type. -/
theorem tv_shaped {s t : Shape} {ε : EltTy} (x : TRef sig ⟨s, ε⟩) (y : TRef sig ⟨t, ε⟩) (hn : s.ShapeCasts t) (h : (shaped (F := F) x y hn).result V = V) :
    tv V y = shapeCast t (tv V x) hn := tv_reshape x y rfl hn h

end Builders

/-! ## The operations -/

abbrev A32 : BufTy := ⟨S32x800000, .i32⟩
abbrev Z32 : BufTy := ⟨S_, .i32⟩

/-- A scalar spread over the array. -/
abbrev spread (x : Z32.Contents (Elt F)) : A32.Contents (Elt F) := broadcastInDim S32x800000 ![] bcast_S_S32x800000 x

/-- One round: the sum, and the sum xor the second word rotated. -/
def rnd (n k : BitVec 32) (x0 x1 o0 : TRef sig A32) (cL : TRef sig Z32) (bL l : TRef sig A32) (cR : TRef sig Z32) (bR r o o1 : TRef sig A32) :
    List (HloOp τ sig (Elt F)) :=
  [TRef.binary x0 x1 o0 addi, TRef.nullary cL (constantI S_ 32 n), TRef.unary cL bL spread, TRef.binary x1 bL l Host.shli,
   TRef.nullary cR (constantI S_ 32 k), TRef.unary cR bR spread, TRef.binary x1 bR r Host.shrui, TRef.binary l r o ori, TRef.binary o0 o o1 xori]

/-- One key injection: a key added to the first word, another and the injection's number to the second. -/
def inj (n : BitVec 32) (k0 k1 : TRef sig Z32) (x0 x1 b0 y0 b1 t : TRef sig A32) (c : TRef sig Z32) (b2 y1 : TRef sig A32) :
    List (HloOp τ sig (Elt F)) :=
  [TRef.unary k0 b0 spread, TRef.binary x0 b0 y0 addi, TRef.unary k1 b1 spread, TRef.binary x1 b1 t addi,
   TRef.nullary c (constantI S_ 32 n), TRef.unary c b2 spread, TRef.binary t b2 y1 addi]

/-- The function `threefry2x32`. -/
def opsKeys (arg0 arg1 : TRef sig Z32) (arg2 arg3 : TRef sig A32) (φ : fn_threefry2x32.Bufs) : List (HloOp τ sig (Elt F)) :=
  [TRef.binary arg0 arg1 φ.v0 xori, TRef.nullary φ.c (constantI S_ 32 466688986#32), TRef.binary φ.v0 φ.c φ.v1 xori,
   TRef.unary arg0 φ.v2 spread, TRef.binary arg2 φ.v2 φ.v3 addi, TRef.unary arg1 φ.v4 spread, TRef.binary arg3 φ.v4 φ.v5 addi]
def opsGroup1 (arg0 arg1 : TRef sig Z32) (φ : fn_threefry2x32.Bufs) : List (HloOp τ sig (Elt F)) :=
  rnd 13 19 φ.v3 φ.v5 φ.v6 φ.c_0 φ.v7 φ.v8 φ.c_1 φ.v9 φ.v10 φ.v11 φ.v12 ++ (
    rnd 15 17 φ.v6 φ.v12 φ.v13 φ.c_2 φ.v14 φ.v15 φ.c_3 φ.v16 φ.v17 φ.v18 φ.v19 ++ (
    rnd 26 6 φ.v13 φ.v19 φ.v20 φ.c_4 φ.v21 φ.v22 φ.c_5 φ.v23 φ.v24 φ.v25 φ.v26 ++ (
    rnd 6 26 φ.v20 φ.v26 φ.v27 φ.c_6 φ.v28 φ.v29 φ.c_7 φ.v30 φ.v31 φ.v32 φ.v33 ++ (
    inj 1 arg1 φ.v1 φ.v27 φ.v33 φ.v34 φ.v35 φ.v36 φ.v37 φ.c_8 φ.v38 φ.v39))))
def opsGroup2 (arg0 arg1 : TRef sig Z32) (φ : fn_threefry2x32.Bufs) : List (HloOp τ sig (Elt F)) :=
  rnd 17 15 φ.v35 φ.v39 φ.v40 φ.c_9 φ.v41 φ.v42 φ.c_10 φ.v43 φ.v44 φ.v45 φ.v46 ++ (
    rnd 29 3 φ.v40 φ.v46 φ.v47 φ.c_11 φ.v48 φ.v49 φ.c_12 φ.v50 φ.v51 φ.v52 φ.v53 ++ (
    rnd 16 16 φ.v47 φ.v53 φ.v54 φ.c_13 φ.v55 φ.v56 φ.c_14 φ.v57 φ.v58 φ.v59 φ.v60 ++ (
    rnd 24 8 φ.v54 φ.v60 φ.v61 φ.c_15 φ.v62 φ.v63 φ.c_16 φ.v64 φ.v65 φ.v66 φ.v67 ++ (
    inj 2 φ.v1 arg0 φ.v61 φ.v67 φ.v68 φ.v69 φ.v70 φ.v71 φ.c_17 φ.v72 φ.v73))))
def opsGroup3 (arg0 arg1 : TRef sig Z32) (φ : fn_threefry2x32.Bufs) : List (HloOp τ sig (Elt F)) :=
  rnd 13 19 φ.v69 φ.v73 φ.v74 φ.c_18 φ.v75 φ.v76 φ.c_19 φ.v77 φ.v78 φ.v79 φ.v80 ++ (
    rnd 15 17 φ.v74 φ.v80 φ.v81 φ.c_20 φ.v82 φ.v83 φ.c_21 φ.v84 φ.v85 φ.v86 φ.v87 ++ (
    rnd 26 6 φ.v81 φ.v87 φ.v88 φ.c_22 φ.v89 φ.v90 φ.c_23 φ.v91 φ.v92 φ.v93 φ.v94 ++ (
    rnd 6 26 φ.v88 φ.v94 φ.v95 φ.c_24 φ.v96 φ.v97 φ.c_25 φ.v98 φ.v99 φ.v100 φ.v101 ++ (
    inj 3 arg0 arg1 φ.v95 φ.v101 φ.v102 φ.v103 φ.v104 φ.v105 φ.c_26 φ.v106 φ.v107))))
def opsGroup4 (arg0 arg1 : TRef sig Z32) (φ : fn_threefry2x32.Bufs) : List (HloOp τ sig (Elt F)) :=
  rnd 17 15 φ.v103 φ.v107 φ.v108 φ.c_27 φ.v109 φ.v110 φ.c_28 φ.v111 φ.v112 φ.v113 φ.v114 ++ (
    rnd 29 3 φ.v108 φ.v114 φ.v115 φ.c_29 φ.v116 φ.v117 φ.c_30 φ.v118 φ.v119 φ.v120 φ.v121 ++ (
    rnd 16 16 φ.v115 φ.v121 φ.v122 φ.c_31 φ.v123 φ.v124 φ.c_32 φ.v125 φ.v126 φ.v127 φ.v128 ++ (
    rnd 24 8 φ.v122 φ.v128 φ.v129 φ.c_33 φ.v130 φ.v131 φ.c_34 φ.v132 φ.v133 φ.v134 φ.v135 ++ (
    inj 4 arg1 φ.v1 φ.v129 φ.v135 φ.v136 φ.v137 φ.v138 φ.v139 φ.c_35 φ.v140 φ.v141))))
def opsGroup5 (arg0 arg1 : TRef sig Z32) (φ : fn_threefry2x32.Bufs) : List (HloOp τ sig (Elt F)) :=
  rnd 13 19 φ.v137 φ.v141 φ.v142 φ.c_36 φ.v143 φ.v144 φ.c_37 φ.v145 φ.v146 φ.v147 φ.v148 ++ (
    rnd 15 17 φ.v142 φ.v148 φ.v149 φ.c_38 φ.v150 φ.v151 φ.c_39 φ.v152 φ.v153 φ.v154 φ.v155 ++ (
    rnd 26 6 φ.v149 φ.v155 φ.v156 φ.c_40 φ.v157 φ.v158 φ.c_41 φ.v159 φ.v160 φ.v161 φ.v162 ++ (
    rnd 6 26 φ.v156 φ.v162 φ.v163 φ.c_42 φ.v164 φ.v165 φ.c_43 φ.v166 φ.v167 φ.v168 φ.v169 ++ (
    inj 5 φ.v1 arg0 φ.v163 φ.v169 φ.v170 φ.v171 φ.v172 φ.v173 φ.c_44 φ.v174 φ.v175))))

def opsThreefry (arg0 arg1 : TRef sig Z32) (arg2 arg3 : TRef sig A32) (φ : fn_threefry2x32.Bufs) : List (HloOp τ sig (Elt F)) :=
  opsKeys arg0 arg1 arg2 arg3 φ ++ (opsGroup1 arg0 arg1 φ ++ (opsGroup2 arg0 arg1 φ ++ (opsGroup3 arg0 arg1 φ ++ (opsGroup4 arg0 arg1 φ ++ opsGroup5 arg0 arg1 φ))))

set_option maxRecDepth 100000 in
theorem threefry_eq (arg0 arg1 : TRef sig Z32) (arg2 arg3 : TRef sig A32) (φ : fn_threefry2x32.Bufs) :
    fn_threefry2x32.body (F := F) arg0 arg1 arg2 arg3 φ = seq (opsThreefry arg0 arg1 arg2 arg3 φ) := rfl

abbrev AF : BufTy := ⟨S32x800000, .f32⟩
abbrev ZF : BufTy := ⟨S_, .f32⟩
abbrev OF : BufTy := ⟨S1x1, .f32⟩
abbrev A64 : BufTy := ⟨S32x800000, .i64⟩
abbrev Z64 : BufTy := ⟨S_, .i64⟩
abbrev spread64 (x : Z64.Contents (Elt F)) : A64.Contents (Elt F) := broadcastInDim S32x800000 ![] bcast_S_S32x800000 x
abbrev spreadF (x : ZF.Contents (Elt F)) : AF.Contents (Elt F) := broadcastInDim S32x800000 ![] bcast_S_S32x800000 x
abbrev oneF (x : ZF.Contents (Elt F)) : OF.Contents (Elt F) := broadcastInDim S1x1 ![] bcast_S_S1x1 x
abbrev wideF (x : OF.Contents (Elt F)) : AF.Contents (Elt F) := broadcastInDim S32x800000 ![0, 1] bcast_S1x1_S32x800000_0_1 x

/-- The function `_uniform` before its generator's call: the key's two words, the counter's two words. -/
def opsCounter (key : TRef sig ⟨S2, .i32⟩) (low high : TRef sig ZF) (φ : fn_uniform.Bufs) : List (HloOp τ sig (Elt F)) :=
  [TRef.unary low φ.v0 id, TRef.unary high φ.v1 id, TRef.unary φ.v0 φ.v2 oneF, TRef.unary φ.v1 φ.v3 oneF,
   TRef.unary key φ.v4 (extractStridedSlice S1 ![0] · slices_S2_S1_0), shaped φ.v4 φ.v5 shapeCasts_S1_S_,
   TRef.unary key φ.v6 (extractStridedSlice S1 ![1] · slices_S2_S1_1), shaped φ.v6 φ.v7 shapeCasts_S1_S_,
   TRef.nullary φ.v8 (iotaInDim S32x800000 64 0), TRef.nullary φ.v9 (iotaInDim S32x800000 64 1),
   TRef.nullary φ.c (constantI S_ 64 800000#64), TRef.unary φ.c φ.v10 spread64, TRef.binary φ.v10 φ.v8 φ.v11 muli,
   TRef.nullary φ.c_0 (constantI S_ 64 1#64), TRef.unary φ.c_0 φ.v12 spread64, TRef.binary φ.v12 φ.v9 φ.v13 muli,
   TRef.binary φ.v11 φ.v13 φ.v14 addi,
   TRef.nullary φ.c_1 (constantI S_ 64 32#64), TRef.unary φ.c_1 φ.v15 spread64, TRef.binary φ.v14 φ.v15 φ.v16 Host.shrui,
   TRef.unary φ.v14 φ.v17 (trunci 32 · natLt_32_64), TRef.unary φ.v16 φ.v18 (trunci 32 · natLt_32_64)]

/-- The function `_uniform` after the call: the generator's words to numbers from the low bound to the high one. -/
def opsFloat (φ : fn_uniform.Bufs) : List (HloOp τ sig (Elt F)) :=
  [TRef.binary φ.call0.v171 φ.call0.v175 φ.v20 xori, TRef.nullary φ.c_2 (constantI S_ 32 9#32), TRef.unary φ.c_2 φ.v21 spread,
   TRef.binary φ.v20 φ.v21 φ.v22 Host.shrui, TRef.nullary φ.c_3 (constantI S_ 32 1065353216#32), TRef.unary φ.c_3 φ.v23 spread,
   TRef.binary φ.v22 φ.v23 φ.v24 ori, TRef.unary φ.v24 φ.v25 (bitcastToFloat .f32),
   TRef.nullary φ.cst (constant S_ .f32 0x3F800000#32), TRef.unary φ.cst φ.v26 spreadF, TRef.binary φ.v25 φ.v26 φ.v27 subf,
   TRef.binary φ.v3 φ.v2 φ.v28 subf, TRef.unary φ.v28 φ.v29 wideF, TRef.binary φ.v27 φ.v29 φ.v30 mulf,
   TRef.unary φ.v2 φ.v31 wideF, TRef.binary φ.v30 φ.v31 φ.v32 addf, TRef.unary φ.v2 φ.v33 wideF, TRef.binary φ.v33 φ.v32 φ.v34 maximumf]

def opsUniform (key : TRef sig ⟨S2, .i32⟩) (low high : TRef sig ZF) (φ : fn_uniform.Bufs) : List (HloOp τ sig (Elt F)) :=
  opsCounter key low high φ ++ (opsThreefry φ.v5 φ.v7 φ.v18 φ.v17 φ.call0 ++ opsFloat φ)

def opsArgmax (x : TRef sig AF) (φ : fn_argmax.Bufs) : List (HloOp τ sig (Elt F)) :=
  [TRef.nullary φ.v0 (iotaInDim S32x800000 32 1), TRef.nullary φ.cst (constant S_ .f32 0xFF800000#32), TRef.nullary φ.c (constantI S_ 32 0#32),
   TRef.quaternary x φ.v0 φ.cst φ.c φ.v1_0 (fun x y u v j => (Host.argReduce reducer_argmax_f32_i32 x y u v reducesTo_S32x800000_S32_d1 h_S_ j).1),
   TRef.quaternary x φ.v0 φ.cst φ.c φ.v1_1 (fun x y u v j => (Host.argReduce reducer_argmax_f32_i32 x y u v reducesTo_S32x800000_S32_d1 h_S_ j).2)]

theorem uniform_eq (key : TRef sig ⟨S2, .i32⟩) (low high : TRef sig ZF) (φ : fn_uniform.Bufs) :
    fn_uniform.body (F := F) key low high φ = seq (opsUniform key low high φ) := by
  rw [opsUniform, seq_append, seq_append, ← threefry_eq]; rfl

theorem argmax_eq (x : TRef sig AF) (φ : fn_argmax.Bufs) : fn_argmax.body (F := F) x φ = seq (opsArgmax x φ) := rfl

/-- The line before the call of `_uniform`. -/
def opsHead : List (HloOp τ sig (Elt F)) :=
  [shaped (.of main_arg1 : TRef sig ⟨S8x32x100000, .f32⟩) (.of main_v0 : TRef sig AF) shapeCasts_S8x32x100000_S32x800000,
   TRef.nullary (.of main_cst : TRef sig ZF) (constant S_ .f32 0x0DA24260#32), TRef.unary (.of main_cst : TRef sig ZF) (.of main_v1 : TRef sig AF) spreadF,
   TRef.binary (.of main_v0 : TRef sig AF) (.of main_v1 : TRef sig AF) (.of main_v2 : TRef sig AF) addf, TRef.unary (.of main_v2 : TRef sig AF) (.of main_v3 : TRef sig AF) Host.log,
   TRef.nullary (.of main_c : TRef sig Z32) (constantI S_ 32 42#32), TRef.nullary (.of main_c_0 : TRef sig Z32) (constantI S_ 32 32#32),
   TRef.binary (.of main_c : TRef sig Z32) (.of main_c_0 : TRef sig Z32) (.of main_v4 : TRef sig Z32) Host.shrui, TRef.unary (.of main_v4 : TRef sig Z32) (.of main_v5 : TRef sig Z32) id,
   TRef.unary (.of main_v5 : TRef sig Z32) (.of main_v6 : TRef sig ⟨S1, .i32⟩) (broadcastInDim S1 ![] bcast_S_S1),
   TRef.nullary (.of main_c_1 : TRef sig Z32) (constantI S_ 32 4294967295#32),
   TRef.binary (.of main_c : TRef sig Z32) (.of main_c_1 : TRef sig Z32) (.of main_v7 : TRef sig Z32) andi, TRef.unary (.of main_v7 : TRef sig Z32) (.of main_v8 : TRef sig Z32) id,
   TRef.unary (.of main_v8 : TRef sig Z32) (.of main_v9 : TRef sig ⟨S1, .i32⟩) (broadcastInDim S1 ![] bcast_S_S1),
   TRef.binary (.of main_v6 : TRef sig ⟨S1, .i32⟩) (.of main_v9 : TRef sig ⟨S1, .i32⟩) (.of main_v10 : TRef sig ⟨S2, .i32⟩)
     (fun a b => concatenate S2 0 [⟨S1, a⟩, ⟨S1, b⟩] concatenates_S1_S1_S2_d0),
   TRef.nullary (.of main_cst_2 : TRef sig ZF) (constant S_ .f32 0x00000000#32), TRef.nullary (.of main_cst_3 : TRef sig ZF) (constant S_ .f32 0x3F800000#32)]

/-- The noise of the uniform numbers, and its sum with the logarithms of the weights. -/
def opsNoise : List (HloOp τ sig (Elt F)) :=
  [TRef.nullary (.of main_cst_4 : TRef sig ZF) (constant S_ .f32 0x00800000#32), TRef.unary (.of main_cst_4 : TRef sig ZF) (.of main_v12 : TRef sig AF) spreadF,
   TRef.binary (.of main_v11 : TRef sig AF) (.of main_v12 : TRef sig AF) (.of main_v13 : TRef sig AF) addf,
   TRef.nullary (.of main_cst_5 : TRef sig ZF) (constant S_ .f32 0x00800000#32), TRef.unary (.of main_cst_5 : TRef sig ZF) (.of main_v14 : TRef sig AF) spreadF,
   TRef.binary (.of main_v14 : TRef sig AF) (.of main_v13 : TRef sig AF) (.of main_v15 : TRef sig AF) maximumf,
   TRef.unary (.of main_v15 : TRef sig AF) (.of main_v16 : TRef sig AF) Host.log, TRef.unary (.of main_v16 : TRef sig AF) (.of main_v17 : TRef sig AF) Host.negf,
   TRef.unary (.of main_v17 : TRef sig AF) (.of main_v18 : TRef sig AF) Host.log, TRef.unary (.of main_v18 : TRef sig AF) (.of main_v19 : TRef sig AF) Host.negf,
   TRef.binary (.of main_v19 : TRef sig AF) (.of main_v3 : TRef sig AF) (.of main_v20 : TRef sig AF) addf]
def opsTail : List (HloOp τ sig (Elt F)) :=
  [shaped (.of main_v21 : TRef sig ⟨S32, .i32⟩) (.of main_v22 : TRef sig ⟨S8x4x1, .i32⟩) shapeCasts_S32_S8x4x1,
   shaped (.of main_v22 : TRef sig ⟨S8x4x1, .i32⟩) (.of main_v23 : TRef sig ⟨S8x4, .i32⟩) shapeCasts_S8x4x1_S8x4]

/-- The program's operations, in order. -/
def ops : List (HloOp τ sig (Elt F)) :=
  opsHead ++ (opsUniform (.of main_v10) (.of main_cst_2) (.of main_cst_3) main_call0
    ++ (opsNoise
    ++ (opsArgmax (.of main_v20) main_call1
    ++ opsTail)))

theorem main_eq (c : Dev nD) : main (F := F) c = seq ops := by
  rw [ops, seq_append, seq_append, seq_append, seq_append, ← uniform_eq, ← argmax_eq]; rfl

/-! ## The line writes each buffer once -/

theorem chain_app {n k : ℕ} {A B : List (HloOp τ sig (Elt F))} (hA : Chain n A) (hk : n + A.length = k) (hB : Chain k B) : Chain n (A ++ B) :=
  chain_append hA (by rw [hk]; exact hB)

theorem rnd_chain {i : ℕ} (n k : BitVec 32) (x0 x1 o0 : TRef sig A32) (cL : TRef sig Z32) (bL l : TRef sig A32) (cR : TRef sig Z32) (bR r o o1 : TRef sig A32)
    (hx : key x0.ref < i ∧ key x1.ref < i)
    (h : key o0.ref = i ∧ key cL.ref = i + 1 ∧ key bL.ref = i + 2 ∧ key l.ref = i + 3 ∧ key cR.ref = i + 4 ∧ key bR.ref = i + 5 ∧ key r.ref = i + 6
      ∧ key o.ref = i + 7 ∧ key o1.ref = i + 8) : Chain (F := F) i (rnd n k x0 x1 o0 cL bL l cR bR r o o1) := by
  obtain ⟨h0, h1, h2, h3, h4, h5, h6, h7, h8⟩ := h
  obtain ⟨g0, g1⟩ := hx
  exact ⟨binary_ok _ _ _ _ h0 g0 g1, nullary_ok _ _ h1, unary_ok _ _ _ h2 (by omega), binary_ok _ _ _ _ h3 (by omega) (by omega), nullary_ok _ _ h4,
    unary_ok _ _ _ h5 (by omega), binary_ok _ _ _ _ h6 (by omega) (by omega), binary_ok _ _ _ _ h7 (by omega) (by omega),
    binary_ok _ _ _ _ h8 (by omega) (by omega), trivial⟩

theorem inj_chain {i : ℕ} (n : BitVec 32) (k0 k1 : TRef sig Z32) (x0 x1 b0 y0 b1 t : TRef sig A32) (c : TRef sig Z32) (b2 y1 : TRef sig A32)
    (hx : key k0.ref < i ∧ key k1.ref < i ∧ key x0.ref < i ∧ key x1.ref < i)
    (h : key b0.ref = i ∧ key y0.ref = i + 1 ∧ key b1.ref = i + 2 ∧ key t.ref = i + 3 ∧ key c.ref = i + 4 ∧ key b2.ref = i + 5 ∧ key y1.ref = i + 6) :
    Chain (F := F) i (inj n k0 k1 x0 x1 b0 y0 b1 t c b2 y1) := by
  obtain ⟨h0, h1, h2, h3, h4, h5, h6⟩ := h
  obtain ⟨g0, g1, g2, g3⟩ := hx
  exact ⟨unary_ok _ _ _ h0 g0, binary_ok _ _ _ _ h1 (by omega) (by omega), unary_ok _ _ _ h2 (by omega), binary_ok _ _ _ _ h3 (by omega) (by omega),
    nullary_ok _ _ h4, unary_ok _ _ _ h5 (by omega), binary_ok _ _ _ _ h6 (by omega) (by omega), trivial⟩

/-- The buffers of the generator's call. -/
abbrev φt : fn_threefry2x32.Bufs := main_call0_call0
/-- The key's two words. -/
abbrev key0 : TRef sig Z32 := .of main_call0_v5
abbrev key1 : TRef sig Z32 := .of main_call0_v7

theorem keys_chain : Chain (F := F) 41 (opsKeys key0 key1 (.of main_call0_v18) (.of main_call0_v17) φt) :=
  ⟨binary_ok _ _ _ _ (by decide) (by decide) (by decide), nullary_ok _ _ (by decide), binary_ok _ _ _ _ (by decide) (by decide) (by decide),
    unary_ok _ _ _ (by decide) (by decide), binary_ok _ _ _ _ (by decide) (by decide) (by decide),
    unary_ok _ _ _ (by decide) (by decide), binary_ok _ _ _ _ (by decide) (by decide) (by decide), trivial⟩
theorem group1_chain : Chain (F := F) 48 (opsGroup1 key0 key1 φt) :=
  chain_app (rnd_chain _ _ _ _ _ _ _ _ _ _ _ _ _ (by decide) (by decide)) (rfl : _ = 57) (chain_app (rnd_chain _ _ _ _ _ _ _ _ _ _ _ _ _ (by decide) (by decide)) (rfl : _ = 66) (
    chain_app (rnd_chain _ _ _ _ _ _ _ _ _ _ _ _ _ (by decide) (by decide)) (rfl : _ = 75) (chain_app (rnd_chain _ _ _ _ _ _ _ _ _ _ _ _ _ (by decide) (by decide)) (rfl : _ = 84) (
    inj_chain _ _ _ _ _ _ _ _ _ _ _ _ (by decide) (by decide)))))
theorem group2_chain : Chain (F := F) 91 (opsGroup2 key0 key1 φt) :=
  chain_app (rnd_chain _ _ _ _ _ _ _ _ _ _ _ _ _ (by decide) (by decide)) (rfl : _ = 100) (chain_app (rnd_chain _ _ _ _ _ _ _ _ _ _ _ _ _ (by decide) (by decide)) (rfl : _ = 109) (
    chain_app (rnd_chain _ _ _ _ _ _ _ _ _ _ _ _ _ (by decide) (by decide)) (rfl : _ = 118) (chain_app (rnd_chain _ _ _ _ _ _ _ _ _ _ _ _ _ (by decide) (by decide)) (rfl : _ = 127) (
    inj_chain _ _ _ _ _ _ _ _ _ _ _ _ (by decide) (by decide)))))
theorem group3_chain : Chain (F := F) 134 (opsGroup3 key0 key1 φt) :=
  chain_app (rnd_chain _ _ _ _ _ _ _ _ _ _ _ _ _ (by decide) (by decide)) (rfl : _ = 143) (chain_app (rnd_chain _ _ _ _ _ _ _ _ _ _ _ _ _ (by decide) (by decide)) (rfl : _ = 152) (
    chain_app (rnd_chain _ _ _ _ _ _ _ _ _ _ _ _ _ (by decide) (by decide)) (rfl : _ = 161) (chain_app (rnd_chain _ _ _ _ _ _ _ _ _ _ _ _ _ (by decide) (by decide)) (rfl : _ = 170) (
    inj_chain _ _ _ _ _ _ _ _ _ _ _ _ (by decide) (by decide)))))
theorem group4_chain : Chain (F := F) 177 (opsGroup4 key0 key1 φt) :=
  chain_app (rnd_chain _ _ _ _ _ _ _ _ _ _ _ _ _ (by decide) (by decide)) (rfl : _ = 186) (chain_app (rnd_chain _ _ _ _ _ _ _ _ _ _ _ _ _ (by decide) (by decide)) (rfl : _ = 195) (
    chain_app (rnd_chain _ _ _ _ _ _ _ _ _ _ _ _ _ (by decide) (by decide)) (rfl : _ = 204) (chain_app (rnd_chain _ _ _ _ _ _ _ _ _ _ _ _ _ (by decide) (by decide)) (rfl : _ = 213) (
    inj_chain _ _ _ _ _ _ _ _ _ _ _ _ (by decide) (by decide)))))
theorem group5_chain : Chain (F := F) 220 (opsGroup5 key0 key1 φt) :=
  chain_app (rnd_chain _ _ _ _ _ _ _ _ _ _ _ _ _ (by decide) (by decide)) (rfl : _ = 229) (chain_app (rnd_chain _ _ _ _ _ _ _ _ _ _ _ _ _ (by decide) (by decide)) (rfl : _ = 238) (
    chain_app (rnd_chain _ _ _ _ _ _ _ _ _ _ _ _ _ (by decide) (by decide)) (rfl : _ = 247) (chain_app (rnd_chain _ _ _ _ _ _ _ _ _ _ _ _ _ (by decide) (by decide)) (rfl : _ = 256) (
    inj_chain _ _ _ _ _ _ _ _ _ _ _ _ (by decide) (by decide)))))
theorem counter_chain : Chain (F := F) 19 (opsCounter (.of main_v10) (.of main_cst_2) (.of main_cst_3) main_call0) :=
  ⟨unary_ok _ _ _ (by decide) (by decide), unary_ok _ _ _ (by decide) (by decide), unary_ok _ _ _ (by decide) (by decide),
    unary_ok _ _ _ (by decide) (by decide), unary_ok _ _ _ (by decide) (by decide), reshape_ok _ _ _ _ (by decide) (by decide),
    unary_ok _ _ _ (by decide) (by decide), reshape_ok _ _ _ _ (by decide) (by decide), nullary_ok _ _ (by decide),
    nullary_ok _ _ (by decide), nullary_ok _ _ (by decide), unary_ok _ _ _ (by decide) (by decide),
    binary_ok _ _ _ _ (by decide) (by decide) (by decide), nullary_ok _ _ (by decide), unary_ok _ _ _ (by decide) (by decide),
    binary_ok _ _ _ _ (by decide) (by decide) (by decide), binary_ok _ _ _ _ (by decide) (by decide) (by decide),
    nullary_ok _ _ (by decide), unary_ok _ _ _ (by decide) (by decide), binary_ok _ _ _ _ (by decide) (by decide) (by decide),
    unary_ok _ _ _ (by decide) (by decide), unary_ok _ _ _ (by decide) (by decide), trivial⟩
theorem float_chain : Chain (F := F) 263 (opsFloat main_call0) :=
  ⟨binary_ok _ _ _ _ (by decide) (by decide) (by decide), nullary_ok _ _ (by decide), unary_ok _ _ _ (by decide) (by decide),
    binary_ok _ _ _ _ (by decide) (by decide) (by decide), nullary_ok _ _ (by decide), unary_ok _ _ _ (by decide) (by decide),
    binary_ok _ _ _ _ (by decide) (by decide) (by decide), unary_ok _ _ _ (by decide) (by decide), nullary_ok _ _ (by decide),
    unary_ok _ _ _ (by decide) (by decide), binary_ok _ _ _ _ (by decide) (by decide) (by decide),
    binary_ok _ _ _ _ (by decide) (by decide) (by decide), unary_ok _ _ _ (by decide) (by decide),
    binary_ok _ _ _ _ (by decide) (by decide) (by decide), unary_ok _ _ _ (by decide) (by decide),
    binary_ok _ _ _ _ (by decide) (by decide) (by decide), unary_ok _ _ _ (by decide) (by decide),
    binary_ok _ _ _ _ (by decide) (by decide) (by decide), trivial⟩
theorem argmax_chain : Chain (F := F) 292 (opsArgmax (.of main_v20) main_call1) :=
  ⟨nullary_ok _ _ (by decide), nullary_ok _ _ (by decide), nullary_ok _ _ (by decide), quaternary_ok _ _ _ _ _ _ (by decide) (by decide) (by decide) (by decide) (by decide),
    quaternary_ok _ _ _ _ _ _ (by decide) (by decide) (by decide) (by decide) (by decide), trivial⟩
theorem head_chain : Chain (F := F) 2 (opsHead) :=
  ⟨reshape_ok _ _ _ _ (by decide) (by decide), nullary_ok _ _ (by decide), unary_ok _ _ _ (by decide) (by decide),
    binary_ok _ _ _ _ (by decide) (by decide) (by decide), unary_ok _ _ _ (by decide) (by decide), nullary_ok _ _ (by decide),
    nullary_ok _ _ (by decide), binary_ok _ _ _ _ (by decide) (by decide) (by decide), unary_ok _ _ _ (by decide) (by decide),
    unary_ok _ _ _ (by decide) (by decide), nullary_ok _ _ (by decide), binary_ok _ _ _ _ (by decide) (by decide) (by decide),
    unary_ok _ _ _ (by decide) (by decide), unary_ok _ _ _ (by decide) (by decide), binary_ok _ _ _ _ (by decide) (by decide) (by decide),
    nullary_ok _ _ (by decide), nullary_ok _ _ (by decide), trivial⟩
theorem noise_chain : Chain (F := F) 281 (opsNoise) :=
  ⟨nullary_ok _ _ (by decide), unary_ok _ _ _ (by decide) (by decide), binary_ok _ _ _ _ (by decide) (by decide) (by decide),
    nullary_ok _ _ (by decide), unary_ok _ _ _ (by decide) (by decide), binary_ok _ _ _ _ (by decide) (by decide) (by decide),
    unary_ok _ _ _ (by decide) (by decide), unary_ok _ _ _ (by decide) (by decide), unary_ok _ _ _ (by decide) (by decide),
    unary_ok _ _ _ (by decide) (by decide), binary_ok _ _ _ _ (by decide) (by decide) (by decide), trivial⟩
theorem tail_chain : Chain (F := F) 297 (opsTail) :=
  ⟨reshape_ok _ _ _ _ (by decide) (by decide), reshape_ok _ _ _ _ (by decide) (by decide), trivial⟩

theorem ops_chain : Chain (F := F) 2 ops :=
  chain_app head_chain (rfl : _ = 19)
    (chain_app
      (chain_app counter_chain (rfl : _ = 41)
        (chain_app
          (chain_app keys_chain (rfl : _ = 48) (chain_app group1_chain (rfl : _ = 91) (chain_app group2_chain (rfl : _ = 134)
            (chain_app group3_chain (rfl : _ = 177) (chain_app group4_chain (rfl : _ = 220) group5_chain)))))
          (rfl : _ = 263) float_chain))
      (rfl : _ = 281)
      (chain_app noise_chain (rfl : _ = 292) (chain_app argmax_chain (rfl : _ = 297) tail_chain)))

/-! ## The run -/

theorem scopedRefs_none : (Finset.univ.filter fun b : Ref sig .tc => b.isScoped) = ∅ := by decide
theorem scopedSems_none : (Finset.univ.filter fun sm : SemLoc sig => sm.isScoped .tc) = ∅ := by decide

variable (m : (ℓ : Loc nD τ sig) → Buf (Elt F) ℓ)

/-- What a device's buffers hold at the end. -/
def Vz (c : Dev nD) : Valuation τ sig (Elt F) := after ops (launchContents m c)

theorem fixed (c : Dev nD) : ∀ op ∈ (ops : List (HloOp τ sig (Elt F))), op.result (Vz m c) = Vz m c := fix_of_chain ops_chain _

theorem Vz_arg (c : Dev nD) (r : Ref sig .tc) (hr : key r < 2) : Vz m c (Proc.devRef .tc r) = m ((c.tc : Thread nD τ).loc r) :=
  after_low ops_chain _ r hr

theorem run (g : Dev nD → PrngReg) : θ_run defs (onTc (τ := τ) (main (F := F))) ⟨m, fun _ => 0, g⟩ fun r =>
    ∀ (c : Dev nD) (b : Ref sig .tc), r.2.mem ((c.tc : Thread nD τ).loc b) = Vz m c (Proc.devRef .tc b) :=
  run_seq scopedRefs_none scopedSems_none defs main (fun _ => ops) main_eq (fun _ => (forall_of_chain ops_chain).1) m g (fun _ => (forall_of_chain ops_chain).2)

/-- The reference declares no semaphore, so its counters are all zero. -/
theorem frame_referenceIdeal : Cert.quiescent_ReferenceIdeal := fun m g _ =>
  θ_run_mono (run m g) fun r h => ⟨fun c => ⟨(h c main_arg0).trans (Vz_arg m c main_arg0 (by decide)), (h c main_arg1).trans (Vz_arg m c main_arg1 (by decide))⟩,
    funext fun s => by rcases s with ⟨_, ⟨i⟩ | ⟨i⟩⟩ <;> exact i.elim0⟩

end Cert.Proof.Sampler.Host

end
-- ==== Proof.ReferenceValue.lean ====
/-
  What the reference's buffers hold at the end: element (r, k) of the summed array is the score of that weight under the
  word of the counter 800000 r + k.
-/
module

public import proofs.«01_k».proof.Proof.ReferenceRun
public import proofs.«01_k».proof.Proof.Threefry
public import proofs.«01_k».proof.Proof.FirstMax
public import Idealize.ShloMosaic.Lib.Pipeline.Value

@[expose] public section

noncomputable section

namespace Cert.Proof.Sampler.Host

open Cert.ReferenceIdeal Cert.ReferenceIdeal.Gen Idealize.ShloMosaic Idealize.ShloMosaic.TcCoe Idealize.ShloMosaic.StableHlo

section Rounds

variable {F : FTy → Type} [FloatOps F] {V : Valuation τ sig (Elt F)}

/-- The one index of a scalar. -/
abbrev z : S_.Idx := fun a => a.elim0

theorem spread_apply (x : Z32.Contents (Elt F)) (i : S32x800000.Idx) : spread x i = x z :=
  congrArg x (funext fun a => a.elim0)

theorem shli_host {n : BitVec 32} (hn : n.toNat < 32) (x : BitVec 32) : IntOp.shli .host x n = x <<< n := if_pos hn
theorem shrui_host {n : BitVec 32} (hn : n.toNat < 32) (x : BitVec 32) : IntOp.shrui .host x n = x >>> n := if_pos hn

theorem rnd_val {n k : BitVec 32} {x0 x1 o0 : TRef sig A32} {cL : TRef sig Z32} {bL l : TRef sig A32} {cR : TRef sig Z32} {bR r o o1 : TRef sig A32}
    (hn : n.toNat < 32) (hk : k.toNat < 32) (h : ∀ op ∈ rnd n k x0 x1 o0 cL bL l cR bR r o o1, op.result V = V) (i : S32x800000.Idx) :
    (tv V o0 i, tv V o1 i) = mix n k (tv V x0 i, tv V x1 i) := by
  simp only [rnd, List.forall_mem_cons] at h
  obtain ⟨h0, h1, h2, h3, h4, h5, h6, h7, h8, -⟩ := h
  have e0 : tv V o0 i = IntOp.addi (tv V x0 i) (tv V x1 i) := congrFun (tv_binary _ _ _ h0) i
  have eL : tv V bL i = n := by
    rw [show tv V bL i = spread (tv V cL) i from congrFun (tv_unary _ _ h2) i, spread_apply, tv_nullary _ h1]; rfl
  have eR : tv V bR i = k := by
    rw [show tv V bR i = spread (tv V cR) i from congrFun (tv_unary _ _ h5) i, spread_apply, tv_nullary _ h4]; rfl
  have el : tv V l i = tv V x1 i <<< n := by
    rw [show tv V l i = IntOp.shli .host (tv V x1 i) (tv V bL i) from congrFun (tv_binary _ _ _ h3) i, eL, shli_host hn]
  have er : tv V r i = tv V x1 i >>> k := by
    rw [show tv V r i = IntOp.shrui .host (tv V x1 i) (tv V bR i) from congrFun (tv_binary _ _ _ h6) i, eR, shrui_host hk]
  have eo : tv V o i = IntOp.ori (tv V l i) (tv V r i) := congrFun (tv_binary _ _ _ h7) i
  have e1 : tv V o1 i = IntOp.xori (tv V o0 i) (tv V o i) := congrFun (tv_binary _ _ _ h8) i
  rw [e1, eo, el, er, e0]; rfl

theorem inj_val {n : BitVec 32} {k0 k1 : TRef sig Z32} {x0 x1 b0 y0 b1 t : TRef sig A32} {c : TRef sig Z32} {b2 y1 : TRef sig A32}
    (h : ∀ op ∈ inj n k0 k1 x0 x1 b0 y0 b1 t c b2 y1, op.result V = V) (i : S32x800000.Idx) :
    (tv V y0 i, tv V y1 i) = inject (tv V k0 z) (tv V k1 z) n (tv V x0 i, tv V x1 i) := by
  simp only [inj, List.forall_mem_cons] at h
  obtain ⟨h0, h1, h2, h3, h4, h5, h6, -⟩ := h
  have e0 : tv V b0 i = tv V k0 z := (congrFun (tv_unary _ _ h0) i).trans (spread_apply _ i)
  have e1 : tv V b1 i = tv V k1 z := (congrFun (tv_unary _ _ h2) i).trans (spread_apply _ i)
  have e2 : tv V b2 i = n := by
    rw [show tv V b2 i = spread (tv V c) i from congrFun (tv_unary _ _ h5) i, spread_apply, tv_nullary _ h4]; rfl
  have f0 : tv V y0 i = IntOp.addi (tv V x0 i) (tv V b0 i) := congrFun (tv_binary _ _ _ h1) i
  have ft : tv V t i = IntOp.addi (tv V x1 i) (tv V b1 i) := congrFun (tv_binary _ _ _ h3) i
  have f1 : tv V y1 i = IntOp.addi (tv V t i) (tv V b2 i) := congrFun (tv_binary _ _ _ h6) i
  rw [f0, f1, ft, e0, e1, e2]; rfl

variable {arg0 arg1 : TRef sig Z32} {φ : fn_threefry2x32.Bufs}

theorem group1_val (h : ∀ op ∈ opsGroup1 arg0 arg1 φ, op.result V = V) (i : S32x800000.Idx) :
    (tv V φ.v35 i, tv V φ.v39 i) = inject (tv V arg1 z) (tv V φ.v1 z) 1 (oddMix (tv V φ.v3 i, tv V φ.v5 i)) := by
  obtain ⟨ha, h⟩ := List.forall_mem_append.1 h
  obtain ⟨hb, h⟩ := List.forall_mem_append.1 h
  obtain ⟨hc, h⟩ := List.forall_mem_append.1 h
  obtain ⟨hd, h⟩ := List.forall_mem_append.1 h
  rw [inj_val h, rnd_val (by decide) (by decide) hd, rnd_val (by decide) (by decide) hc, rnd_val (by decide) (by decide) hb,
    rnd_val (by decide) (by decide) ha, oddMix]

theorem group2_val (h : ∀ op ∈ opsGroup2 arg0 arg1 φ, op.result V = V) (i : S32x800000.Idx) :
    (tv V φ.v69 i, tv V φ.v73 i) = inject (tv V φ.v1 z) (tv V arg0 z) 2 (evenMix (tv V φ.v35 i, tv V φ.v39 i)) := by
  obtain ⟨ha, h⟩ := List.forall_mem_append.1 h
  obtain ⟨hb, h⟩ := List.forall_mem_append.1 h
  obtain ⟨hc, h⟩ := List.forall_mem_append.1 h
  obtain ⟨hd, h⟩ := List.forall_mem_append.1 h
  rw [inj_val h, rnd_val (by decide) (by decide) hd, rnd_val (by decide) (by decide) hc, rnd_val (by decide) (by decide) hb,
    rnd_val (by decide) (by decide) ha, evenMix]

theorem group3_val (h : ∀ op ∈ opsGroup3 arg0 arg1 φ, op.result V = V) (i : S32x800000.Idx) :
    (tv V φ.v103 i, tv V φ.v107 i) = inject (tv V arg0 z) (tv V arg1 z) 3 (oddMix (tv V φ.v69 i, tv V φ.v73 i)) := by
  obtain ⟨ha, h⟩ := List.forall_mem_append.1 h
  obtain ⟨hb, h⟩ := List.forall_mem_append.1 h
  obtain ⟨hc, h⟩ := List.forall_mem_append.1 h
  obtain ⟨hd, h⟩ := List.forall_mem_append.1 h
  rw [inj_val h, rnd_val (by decide) (by decide) hd, rnd_val (by decide) (by decide) hc, rnd_val (by decide) (by decide) hb,
    rnd_val (by decide) (by decide) ha, oddMix]

theorem group4_val (h : ∀ op ∈ opsGroup4 arg0 arg1 φ, op.result V = V) (i : S32x800000.Idx) :
    (tv V φ.v137 i, tv V φ.v141 i) = inject (tv V arg1 z) (tv V φ.v1 z) 4 (evenMix (tv V φ.v103 i, tv V φ.v107 i)) := by
  obtain ⟨ha, h⟩ := List.forall_mem_append.1 h
  obtain ⟨hb, h⟩ := List.forall_mem_append.1 h
  obtain ⟨hc, h⟩ := List.forall_mem_append.1 h
  obtain ⟨hd, h⟩ := List.forall_mem_append.1 h
  rw [inj_val h, rnd_val (by decide) (by decide) hd, rnd_val (by decide) (by decide) hc, rnd_val (by decide) (by decide) hb,
    rnd_val (by decide) (by decide) ha, evenMix]

theorem group5_val (h : ∀ op ∈ opsGroup5 arg0 arg1 φ, op.result V = V) (i : S32x800000.Idx) :
    (tv V φ.v171 i, tv V φ.v175 i) = inject (tv V φ.v1 z) (tv V arg0 z) 5 (oddMix (tv V φ.v137 i, tv V φ.v141 i)) := by
  obtain ⟨ha, h⟩ := List.forall_mem_append.1 h
  obtain ⟨hb, h⟩ := List.forall_mem_append.1 h
  obtain ⟨hc, h⟩ := List.forall_mem_append.1 h
  obtain ⟨hd, h⟩ := List.forall_mem_append.1 h
  rw [inj_val h, rnd_val (by decide) (by decide) hd, rnd_val (by decide) (by decide) hc, rnd_val (by decide) (by decide) hb,
    rnd_val (by decide) (by decide) ha, oddMix]

/-- The generator's call at the key (0, 42), from two words that sum to zero and the counter. -/
theorem threefry_val {arg2 arg3 : TRef sig A32} (h : ∀ op ∈ opsThreefry arg0 arg1 arg2 arg3 φ, op.result V = V)
    (h0 : tv V arg0 z = 0#32) (h1 : tv V arg1 z = 42#32) (i : S32x800000.Idx) (h2 : tv V arg2 i = 0#32) :
    IntOp.xori (tv V φ.v171 i) (tv V φ.v175 i) = word32 (tv V arg3 i) := by
  obtain ⟨hk, h⟩ := List.forall_mem_append.1 h
  obtain ⟨ha, h⟩ := List.forall_mem_append.1 h
  obtain ⟨hb, h⟩ := List.forall_mem_append.1 h
  obtain ⟨hc, h⟩ := List.forall_mem_append.1 h
  obtain ⟨hd, he⟩ := List.forall_mem_append.1 h
  simp only [opsKeys, List.forall_mem_cons] at hk
  obtain ⟨k0, k1, k2, k3, k4, k5, k6, -⟩ := hk
  have e1 : tv V φ.v1 z = 466689008#32 := by
    rw [show tv V φ.v1 z = IntOp.xori (tv V φ.v0 z) (tv V φ.c z) from congrFun (tv_binary _ _ _ k2) z, tv_nullary _ k1,
      show tv V φ.v0 z = IntOp.xori (tv V arg0 z) (tv V arg1 z) from congrFun (tv_binary _ _ _ k0) z, h0, h1]
    rfl
  have e3 : tv V φ.v3 i = 0#32 := by
    rw [show tv V φ.v3 i = IntOp.addi (tv V arg2 i) (tv V φ.v2 i) from congrFun (tv_binary _ _ _ k4) i,
      show tv V φ.v2 i = spread (tv V arg0) i from congrFun (tv_unary _ _ k3) i, spread_apply, h0, h2]
    rfl
  have e5 : tv V φ.v5 i = IntOp.addi (tv V arg3 i) 42#32 := by
    rw [show tv V φ.v5 i = IntOp.addi (tv V arg3 i) (tv V φ.v4 i) from congrFun (tv_binary _ _ _ k6) i,
      show tv V φ.v4 i = spread (tv V arg1) i from congrFun (tv_unary _ _ k5) i, spread_apply, h1]
  have g : (tv V φ.v171 i, tv V φ.v175 i) = state5 (0#32, IntOp.addi (tv V arg3 i) 42#32) := by
    rw [group5_val he, group4_val hd, group3_val hc, group2_val hb, group1_val ha, h0, h1, e1, e3, e5]
    rfl
  rw [word32, ← g]

end Rounds

section Numbers

variable {V : Valuation τ sig (Elt Ideal)}

theorem spreadF_apply (x : ZF.Contents (Elt Ideal)) (i : S32x800000.Idx) : spreadF x i = x z :=
  congrArg x (funext fun a => a.elim0)

theorem spread64_apply (x : (⟨S_, .i64⟩ : BufTy).Contents (Elt Ideal)) (i : S32x800000.Idx) : spread64 x i = x z :=
  congrArg x (funext fun a => a.elim0)

/-- The one index of a one-by-one array. -/
abbrev zz : S1x1.Idx := fun | 0 => (0 : Fin 1) | 1 => (0 : Fin 1)

theorem oneF_apply (x : ZF.Contents (Elt Ideal)) (i : S1x1.Idx) : oneF x i = x z :=
  congrArg x (funext fun a => a.elim0)

theorem wideF_apply (x : OF.Contents (Elt Ideal)) (i : S32x800000.Idx) : wideF x i = x zz :=
  congrArg x (funext fun a => by
    refine Fin.ext ?_
    match a with
    | 0 => exact (Nat.lt_one_iff.1 (Fin.isLt _)).trans rfl
    | 1 => exact (Nat.lt_one_iff.1 (Fin.isLt _)).trans rfl)

/-- The counter of an element. -/
def counter (i : S32x800000.Idx) : ℕ := 800000 * (i 0).val + (i 1).val

theorem counter_lt (i : S32x800000.Idx) : counter i < 2 ^ 32 := by
  have h0 : (i 0).val < 32 := (i 0).isLt
  have h1 : (i 1).val < 800000 := (i 1).isLt
  unfold counter
  omega

theorem counter_val {key : TRef sig ⟨S2, .i32⟩} {low high : TRef sig ZF} {φ : fn_uniform.Bufs}
    (h : ∀ op ∈ opsCounter key low high φ, op.result V = V) (i : S32x800000.Idx) :
    tv V φ.v17 i = BitVec.ofNat 32 (counter i) ∧ tv V φ.v18 i = 0#32 := by
  simp only [opsCounter, List.forall_mem_cons] at h
  obtain ⟨-, -, -, -, -, -, -, -, h8, h9, hc, h10, h11, hc0, h12, h13, h14, hc1, h15, h16, h17, h18, -⟩ := h
  have e14 : tv V φ.v14 i = BitVec.ofNat 64 (counter i) := by
    rw [show tv V φ.v14 i = IntOp.addi (tv V φ.v11 i) (tv V φ.v13 i) from congrFun (tv_binary _ _ _ h14) i,
      show tv V φ.v11 i = IntOp.muli (tv V φ.v10 i) (tv V φ.v8 i) from congrFun (tv_binary _ _ _ h11) i,
      show tv V φ.v13 i = IntOp.muli (tv V φ.v12 i) (tv V φ.v9 i) from congrFun (tv_binary _ _ _ h13) i,
      show tv V φ.v10 i = spread64 (tv V φ.c) i from congrFun (tv_unary _ _ h10) i, spread64_apply, tv_nullary _ hc,
      show tv V φ.v12 i = spread64 (tv V φ.c_0) i from congrFun (tv_unary _ _ h12) i, spread64_apply, tv_nullary _ hc0,
      tv_nullary _ h8, tv_nullary _ h9]
    show 800000#64 * BitVec.ofNat 64 (i 0).val + 1#64 * BitVec.ofNat 64 (i 1).val = _
    rw [counter, BitVec.ofNat_add, BitVec.ofNat_mul, BitVec.one_mul]
  have e16 : tv V φ.v16 i = BitVec.ofNat 64 (counter i) >>> 32#64 := by
    rw [show tv V φ.v16 i = IntOp.shrui .host (tv V φ.v14 i) (tv V φ.v15 i) from congrFun (tv_binary _ _ _ h16) i, e14,
      show tv V φ.v15 i = spread64 (tv V φ.c_1) i from congrFun (tv_unary _ _ h15) i, spread64_apply, tv_nullary _ hc1]
    rfl
  have hlt := counter_lt i
  constructor
  · rw [show tv V φ.v17 i = (tv V φ.v14 i).setWidth 32 from congrFun (tv_unary _ _ h17) i, e14]
    apply BitVec.eq_of_toNat_eq
    simp
  · rw [show tv V φ.v18 i = (tv V φ.v16 i).setWidth 32 from congrFun (tv_unary _ _ h18) i, e16]
    apply BitVec.eq_of_toNat_eq
    simp [Nat.shiftRight_eq_div_pow]
    omega

/-- The two words of the key. -/
theorem key_val (h : ∀ op ∈ opsHead, op.result V = V) (j : S2.Idx) :
    tv V (.of main_v10 : TRef sig ⟨S2, .i32⟩) j = if (j 0).val = 0 then 0#32 else 42#32 := by
  simp only [opsHead, List.forall_mem_cons] at h
  obtain ⟨-, -, -, -, -, hc, hc0, h4, h5, h6, hc1, h7, h8, h9, h10, -, -⟩ := h
  have e6 : ∀ a, tv V (.of main_v6 : TRef sig ⟨S1, .i32⟩) a = 0#32 := fun a => by
    rw [tv_unary _ _ h6, tv_unary _ _ h5, tv_binary _ _ _ h4, tv_nullary _ hc, tv_nullary _ hc0]; rfl
  have e9 : ∀ a, tv V (.of main_v9 : TRef sig ⟨S1, .i32⟩) a = 42#32 := fun a => by
    rw [tv_unary _ _ h9, tv_unary _ _ h8, tv_binary _ _ _ h7, tv_nullary _ hc, tv_nullary _ hc1]; exact (by decide : (42#32 &&& 4294967295#32) = 42#32)
  rw [tv_binary _ _ _ h10]
  have hj : (j 0).val < 2 := (j 0).isLt
  split
  · rename_i h0
    exact (concatenate_pair_apply_left (t := S2) (s₁ := S1) (s₂ := S1) 0 _ _ _ j rfl (fun a => ⟨0, by fin_cases a; decide⟩)
      (fun b => by fin_cases b; exact h0.symm)).trans (e6 _)
  · rename_i h0
    exact (concatenate_pair_apply_right (t := S2) (s₁ := S1) (s₂ := S1) 0 _ _ _ j rfl rfl (fun a => ⟨0, by fin_cases a; decide⟩)
      (fun b hb => absurd (by fin_cases b; rfl) hb) (by show 0 + 1 = (j 0).val; omega)).trans (e9 _)

theorem keys_val {key : TRef sig ⟨S2, .i32⟩} {low high : TRef sig ZF} {φ : fn_uniform.Bufs}
    (h : ∀ op ∈ opsCounter key low high φ, op.result V = V) (hk : ∀ j : S2.Idx, tv V key j = if (j 0).val = 0 then 0#32 else 42#32) :
    tv V φ.v5 z = 0#32 ∧ tv V φ.v7 z = 42#32 := by
  simp only [opsCounter, List.forall_mem_cons] at h
  obtain ⟨-, -, -, -, h4, h5, h6, h7, -⟩ := h
  constructor
  · rw [tv_shaped _ _ _ h5, tv_unary _ _ h4]
    exact (hk _).trans (if_pos (by show 0 + (_ : Fin 1).val = 0; omega))
  · rw [tv_shaped _ _ _ h7, tv_unary _ _ h6]
    exact (hk _).trans (if_neg (by show ¬ 1 + (_ : Fin 1).val = 0; omega))

theorem bounds_val {key : TRef sig ⟨S2, .i32⟩} {low high : TRef sig ZF} {φ : fn_uniform.Bufs}
    (h : ∀ op ∈ opsCounter key low high φ, op.result V = V) (hl : tv V low z = (0 : EReal)) (hh : tv V high z = (1 : EReal)) :
    tv V φ.v2 zz = (0 : EReal) ∧ tv V φ.v3 zz = (1 : EReal) := by
  simp only [opsCounter, List.forall_mem_cons] at h
  obtain ⟨h0, h1, h2, h3, -⟩ := h
  constructor
  · rw [tv_unary _ _ h2, oneF_apply, tv_unary _ _ h0]; exact hl
  · rw [tv_unary _ _ h3, oneF_apply, tv_unary _ _ h1]; exact hh

/-- From the generator's words to the numbers: the low bound zero and the high bound one leave the number the word names. -/
theorem float_val {φ : fn_uniform.Bufs} (h : ∀ op ∈ opsFloat φ, op.result V = V) (hl : tv V φ.v2 zz = (0 : EReal)) (hh : tv V φ.v3 zz = (1 : EReal))
    (i : S32x800000.Idx) : tv V φ.v34 i = unit (IntOp.xori (tv V φ.call0.v171 i) (tv V φ.call0.v175 i)) := by
  simp only [opsFloat, List.forall_mem_cons] at h
  obtain ⟨h20, hc2, h21, h22, hc3, h23, h24, h25, hcst, h26, h27, h28, h29, h30, h31, h32, h33, h34, -⟩ := h
  have e20 : tv V φ.v20 i = IntOp.xori (tv V φ.call0.v171 i) (tv V φ.call0.v175 i) := congrFun (tv_binary _ _ _ h20) i
  have e22 : tv V φ.v22 i = tv V φ.v20 i >>> 9#32 := by
    rw [show tv V φ.v22 i = IntOp.shrui .host (tv V φ.v20 i) (tv V φ.v21 i) from congrFun (tv_binary _ _ _ h22) i,
      show tv V φ.v21 i = spread (tv V φ.c_2) i from congrFun (tv_unary _ _ h21) i, spread_apply, tv_nullary _ hc2]
    exact shrui_host (by decide) _
  have e24 : tv V φ.v24 i = IntOp.ori (tv V φ.v20 i >>> 9#32) 0x3F800000#32 := by
    rw [show tv V φ.v24 i = IntOp.ori (tv V φ.v22 i) (tv V φ.v23 i) from congrFun (tv_binary _ _ _ h24) i, e22,
      show tv V φ.v23 i = spread (tv V φ.c_3) i from congrFun (tv_unary _ _ h23) i, spread_apply, tv_nullary _ hc3]
    rfl
  have e27 : tv V φ.v27 i = unit (tv V φ.v20 i) := by
    rw [show tv V φ.v27 i = HSub.hSub (α := EReal) (tv V φ.v25 i) (tv V φ.v26 i) from congrFun (tv_binary _ _ _ h27) i,
      show tv V φ.v26 i = spreadF (tv V φ.cst) i from congrFun (tv_unary _ _ h26) i, spreadF_apply, tv_nullary _ hcst,
      show tv V φ.v25 i = Ideal.ofBits .f32 (tv V φ.v24 i) from congrFun (tv_unary _ _ h25) i, e24]
    rfl
  have e29 : tv V φ.v29 i = (1 : EReal) := by
    rw [show tv V φ.v29 i = wideF (tv V φ.v28) i from congrFun (tv_unary _ _ h29) i, wideF_apply,
      show tv V φ.v28 zz = HSub.hSub (α := EReal) (tv V φ.v3 zz) (tv V φ.v2 zz) from congrFun (tv_binary _ _ _ h28) zz, hl, hh]
    exact sub_zero 1
  have e31 : tv V φ.v31 i = (0 : EReal) := by
    rw [show tv V φ.v31 i = wideF (tv V φ.v2) i from congrFun (tv_unary _ _ h31) i, wideF_apply, hl]
  have e33 : tv V φ.v33 i = (0 : EReal) := by
    rw [show tv V φ.v33 i = wideF (tv V φ.v2) i from congrFun (tv_unary _ _ h33) i, wideF_apply, hl]
  rw [show tv V φ.v34 i = max (α := EReal) (tv V φ.v33 i) (tv V φ.v32 i) from congrFun (tv_binary _ _ _ h34) i,
    show tv V φ.v32 i = HAdd.hAdd (α := EReal) (tv V φ.v30 i) (tv V φ.v31 i) from congrFun (tv_binary _ _ _ h32) i,
    show tv V φ.v30 i = HMul.hMul (α := EReal) (tv V φ.v27 i) (tv V φ.v29 i) from congrFun (tv_binary _ _ _ h30) i, e33, e31, e29, e27, e20,
    mul_one, add_zero]
  exact max_eq_right (unit_nonneg _)

/-- The summed array: each element's score. -/
theorem sum_val (h : ∀ op ∈ (ops : List (HloOp τ sig (Elt Ideal))), op.result V = V) (i : S32x800000.Idx) :
    tv V (.of main_v20 : TRef sig AF) i = score (word32 (BitVec.ofNat 32 (counter i))) (tv V (.of main_v0 : TRef sig AF) i) := by
  obtain ⟨hhead, h⟩ := List.forall_mem_append.1 h
  obtain ⟨hu, h⟩ := List.forall_mem_append.1 h
  obtain ⟨hnoise, -⟩ := List.forall_mem_append.1 h
  obtain ⟨hcount, hu⟩ := List.forall_mem_append.1 hu
  obtain ⟨htf, hfl⟩ := List.forall_mem_append.1 hu
  have hkey := keys_val hcount (key_val hhead)
  have hcnt := counter_val hcount i
  have hword := threefry_val htf hkey.1 hkey.2 i hcnt.2
  simp only [opsHead, List.forall_mem_cons] at hhead
  obtain ⟨-, gc, g1, g2, g3, -, -, -, -, -, -, -, -, -, -, gl, gh, -⟩ := hhead
  have hb := bounds_val hcount
    (by rw [tv_nullary _ gl]; exact Ideal.ofBits_zero_f32) (by rw [tv_nullary _ gh]; exact Ideal.ofBits_one_f32)
  have hv := float_val hfl hb.1 hb.2 i
  rw [hword, hcnt.1] at hv
  simp only [opsNoise, List.forall_mem_cons] at hnoise
  obtain ⟨n4, n12, n13, n5, n14, n15, n16, n17, n18, n19, n20, -⟩ := hnoise
  have e3 : tv V (.of main_v3 : TRef sig AF) i = Ideal.log (HAdd.hAdd (α := EReal) (tv V (.of main_v0 : TRef sig AF) i) eps) := by
    rw [show tv V (.of main_v3 : TRef sig AF) i = Ideal.log (tv V (.of main_v2 : TRef sig AF) i) from congrFun (tv_unary _ _ g3) i,
      show tv V (.of main_v2 : TRef sig AF) i = HAdd.hAdd (α := EReal) (tv V (.of main_v0 : TRef sig AF) i) (tv V (.of main_v1 : TRef sig AF) i)
        from congrFun (tv_binary _ _ _ g2) i,
      show tv V (.of main_v1 : TRef sig AF) i = spreadF (tv V (.of main_cst : TRef sig ZF)) i from congrFun (tv_unary _ _ g1) i, spreadF_apply,
      tv_nullary _ gc]
    rfl
  have e15 : tv V (.of main_v15 : TRef sig AF) i = max tiny (unit (word32 (BitVec.ofNat 32 (counter i))) + tiny) := by
    rw [show tv V (.of main_v15 : TRef sig AF) i = max (α := EReal) (tv V (.of main_v14 : TRef sig AF) i) (tv V (.of main_v13 : TRef sig AF) i)
        from congrFun (tv_binary _ _ _ n15) i,
      show tv V (.of main_v13 : TRef sig AF) i = HAdd.hAdd (α := EReal) (tv V (.of main_v11 : TRef sig AF) i) (tv V (.of main_v12 : TRef sig AF) i)
        from congrFun (tv_binary _ _ _ n13) i,
      show tv V (.of main_v12 : TRef sig AF) i = spreadF (tv V (.of main_cst_4 : TRef sig ZF)) i from congrFun (tv_unary _ _ n12) i, spreadF_apply,
      tv_nullary _ n4,
      show tv V (.of main_v14 : TRef sig AF) i = spreadF (tv V (.of main_cst_5 : TRef sig ZF)) i from congrFun (tv_unary _ _ n14) i, spreadF_apply,
      tv_nullary _ n5, show tv V (.of main_v11 : TRef sig AF) i = unit (word32 (BitVec.ofNat 32 (counter i))) from hv]
    rfl
  rw [show tv V (.of main_v20 : TRef sig AF) i = HAdd.hAdd (α := EReal) (tv V (.of main_v19 : TRef sig AF) i) (tv V (.of main_v3 : TRef sig AF) i)
      from congrFun (tv_binary _ _ _ n20) i,
    show tv V (.of main_v19 : TRef sig AF) i = Neg.neg (α := EReal) (tv V (.of main_v18 : TRef sig AF) i) from congrFun (tv_unary _ _ n19) i,
    show tv V (.of main_v18 : TRef sig AF) i = Ideal.log (tv V (.of main_v17 : TRef sig AF) i) from congrFun (tv_unary _ _ n18) i,
    show tv V (.of main_v17 : TRef sig AF) i = Neg.neg (α := EReal) (tv V (.of main_v16 : TRef sig AF) i) from congrFun (tv_unary _ _ n17) i,
    show tv V (.of main_v16 : TRef sig AF) i = Ideal.log (tv V (.of main_v15 : TRef sig AF) i) from congrFun (tv_unary _ _ n16) i, e15, e3]
  exact add_comm (G := EReal) _ _

/-! ## The first place of each row's greatest score -/

/-- What the reduction's body does to two pairs. -/
theorem pick (p q : EReal × BitVec 32) :
    (reducer_argmax_f32_i32 (F := Ideal) p q = p ∨ reducer_argmax_f32_i32 (F := Ideal) p q = q)
      ∧ Before (reducer_argmax_f32_i32 (F := Ideal) p q) p ∧ Before (reducer_argmax_f32_i32 (F := Ideal) p q) q := by
  have e : reducer_argmax_f32_i32 (F := Ideal) p q
      = (Scalar.select (IntOp.ori (Ideal.cmp .ogt p.1 q.1) (Ideal.cmp .une p.1 p.1)) p.1 q.1,
          Scalar.select (IntOp.ori (IntOp.ori (Ideal.cmp .ogt p.1 q.1) (Ideal.cmp .une p.1 p.1))
            (IntOp.andi (Ideal.cmp .oeq p.1 q.1) (IntOp.cmpi .slt p.2 q.2))) p.2 q.2) := rfl
  have hune : Ideal.cmp .une p.1 p.1 = 0#1 := by simp [Ideal.cmp]
  rw [e, hune]
  rcases lt_trichotomy p.1 q.1 with h | h | h
  · have h1 : Ideal.cmp .ogt p.1 q.1 = 0#1 := by simp [Ideal.cmp, not_lt.2 h.le]
    have h2 : Ideal.cmp .oeq p.1 q.1 = 0#1 := by simp [Ideal.cmp, h.ne]
    rw [h1, h2]
    have e2 : (Scalar.select (IntOp.ori 0#1 0#1) p.1 q.1,
        Scalar.select (IntOp.ori (IntOp.ori 0#1 0#1) (IntOp.andi 0#1 (IntOp.cmpi .slt p.2 q.2))) p.2 q.2) = q := by
      rw [show IntOp.andi 0#1 (IntOp.cmpi .slt p.2 q.2) = 0#1 from BitVec.zero_and]
      rfl
    rw [e2]
    exact ⟨Or.inr rfl, Or.inl h, .refl q⟩
  · have h1 : Ideal.cmp .ogt p.1 q.1 = 0#1 := by simp [Ideal.cmp, h]
    have h2 : Ideal.cmp .oeq p.1 q.1 = 1#1 := by simp [Ideal.cmp, h]
    rw [h1, h2]
    by_cases g : p.2.slt q.2 = true
    · have e2 : (Scalar.select (IntOp.ori 0#1 0#1) p.1 q.1,
          Scalar.select (IntOp.ori (IntOp.ori 0#1 0#1) (IntOp.andi 1#1 (IntOp.cmpi .slt p.2 q.2))) p.2 q.2) = p := by
        rw [show IntOp.cmpi .slt p.2 q.2 = 1#1 by simp [IntOp.cmpi, g]]
        exact Prod.ext h.symm rfl
      rw [e2]
      exact ⟨Or.inl rfl, .refl p, Or.inr ⟨h.symm, le_of_lt (by simpa [BitVec.slt] using g)⟩⟩
    · have e2 : (Scalar.select (IntOp.ori 0#1 0#1) p.1 q.1,
          Scalar.select (IntOp.ori (IntOp.ori 0#1 0#1) (IntOp.andi 1#1 (IntOp.cmpi .slt p.2 q.2))) p.2 q.2) = q := by
        rw [show IntOp.cmpi .slt p.2 q.2 = 0#1 by simp [IntOp.cmpi, g]]
        rfl
      rw [e2]
      exact ⟨Or.inr rfl, Or.inr ⟨h, by simpa [BitVec.slt] using g⟩, .refl q⟩
  · have h1 : Ideal.cmp .ogt p.1 q.1 = 1#1 := by simp [Ideal.cmp, h]
    have h2 : Ideal.cmp .oeq p.1 q.1 = 0#1 := by simp [Ideal.cmp, h.ne']
    rw [h1, h2]
    have e2 : (Scalar.select (IntOp.ori 1#1 0#1) p.1 q.1,
        Scalar.select (IntOp.ori (IntOp.ori 1#1 0#1) (IntOp.andi 0#1 (IntOp.cmpi .slt p.2 q.2))) p.2 q.2) = p := by
      rw [show IntOp.andi 0#1 (IntOp.cmpi .slt p.2 q.2) = 0#1 from BitVec.zero_and]
      rfl
    rw [e2]
    exact ⟨Or.inl rfl, .refl p, Or.inl h⟩

theorem negInf : Ideal.ofBits .f32 0xFF800000#32 = (⊥ : EReal) := by
  simp [Ideal.ofBits, Ideal.ieee]

/-- The index of row `r` and column `k`. -/
abbrev at2 (r : Fin 32) (k : Fin 800000) : S32x800000.Idx := fun | 0 => r | 1 => k

/-- The reduction over a row of an array whose columns are `g`. -/
theorem argmax_row (x : AF.Contents (Elt Ideal)) (j : S32.Idx) (g : ℕ → EReal) (hx : ∀ i : S32x800000.Idx, (i 0).val = (j 0).val → x i = g (i 1).val) :
    ∃ n, IsFirst 800000 g n ∧ (Host.argReduce (reducer_argmax_f32_i32 (F := Ideal)) x (iotaInDim S32x800000 32 1) (constant S_ .f32 0xFF800000#32)
      (constantI S_ 32 0#32) reducesTo_S32x800000_S32_d1 h_S_ j).2 = BitVec.ofNat 32 n := by
  rw [Ideal.argReduce_eq_reduce2, Host.reduce2_eq_foldl_fiber]
  have h0 : (constant (F := Ideal) S_ .f32 0xFF800000#32 (Shape.Idx.first h_S_), constantI S_ 32 0#32 (Shape.Idx.first h_S_)) = ((⊥ : EReal), 0#32) :=
    Prod.ext negInf rfl
  rw [h0]
  refine fold_first _ pick _ 800000 (by norm_num) (by norm_num) g fun p => ?_
  have hdrop : ∀ i : S32x800000.Idx, reducesTo_S32x800000_S32_d1.drop i = j ↔ (i 0).val = (j 0).val := fun i => by
    constructor
    · intro h; rw [← h]; exact (Shape.ReducesTo.drop_apply_val_of_eq _ i 0 0).symm
    · intro h
      refine funext fun b => Fin.ext ?_
      obtain rfl : b = 0 := Subsingleton.elim _ _
      exact (Shape.ReducesTo.drop_apply_val_of_eq _ i 0 0).trans h
  unfold Host.argReduceFiber
  simp only [List.mem_map, List.mem_filter, List.mem_finRange, true_and, decide_eq_true_eq]
  constructor
  · rintro ⟨n, hn, rfl⟩
    have := (hdrop _).1 hn
    exact ⟨(S32x800000.rowMajor.symm n 1).val, (S32x800000.rowMajor.symm n 1).isLt, Prod.ext (hx _ this) rfl⟩
  · rintro ⟨k, hk, rfl⟩
    refine ⟨S32x800000.rowMajor (at2 (j 0) ⟨k, hk⟩), ?_, ?_⟩
    · rw [Equiv.symm_apply_apply]; exact (hdrop _).2 rfl
    · rw [Equiv.symm_apply_apply]; exact Prod.ext (hx _ rfl) rfl

/-- The reference's result: in each row, the first column of the greatest score. -/
theorem result_val (h : ∀ op ∈ (ops : List (HloOp τ sig (Elt Ideal))), op.result V = V) (j : S8x4.Idx) :
    ∃ n, IsFirst 800000 (rowScore (tv V (.of main_arg1 : TRef sig ⟨S8x32x100000, .f32⟩)) (S8x4.rowMajor j).val) n
      ∧ tv V (.of main_v23 : TRef sig ⟨S8x4, .i32⟩) j = BitVec.ofNat 32 n := by
  have hsum := fun i => sum_val h i
  obtain ⟨hhead, h⟩ := List.forall_mem_append.1 h
  obtain ⟨-, h⟩ := List.forall_mem_append.1 h
  obtain ⟨-, h⟩ := List.forall_mem_append.1 h
  obtain ⟨harg, htail⟩ := List.forall_mem_append.1 h
  simp only [opsHead, List.forall_mem_cons] at hhead
  obtain ⟨g0, -⟩ := hhead
  simp only [opsArgmax, List.forall_mem_cons] at harg
  obtain ⟨a0, a1, a2, -, a4, -⟩ := harg
  simp only [opsTail, List.forall_mem_cons] at htail
  obtain ⟨t22, t23, -⟩ := htail
  have e21 : tv V (.of main_v21 : TRef sig ⟨S32, .i32⟩) = _ := tv_quaternary _ _ _ _ _ a4
  have hr : (S8x4.rowMajor j).val < 32 := (S8x4.rowMajor j).isLt
  obtain ⟨n, hn, e⟩ := argmax_row (tv V (.of main_v20 : TRef sig AF)) (fun | 0 => ⟨(S8x4.rowMajor j).val, hr⟩)
    (rowScore (tv V (.of main_arg1 : TRef sig ⟨S8x32x100000, .f32⟩)) (S8x4.rowMajor j).val) (fun i hi => by
      have hpos : (S32x800000.rowMajor i).val = 800000 * (S8x4.rowMajor j).val + (i 1).val := by
        rw [Shape.rowMajor_val_two, show (i 0).val = (S8x4.rowMajor j).val from hi]; simp [mul_comm]
      rw [hsum i, tv_shaped _ _ _ g0, shapeCast_flat, hpos, counter, show (i 0).val = (S8x4.rowMajor j).val from hi]
      rfl)
  refine ⟨n, hn, ?_⟩
  rw [tv_shaped _ _ _ t23, tv_shaped _ _ _ t22]
  have e' : ∀ k : S32.Idx, tv V (.of main_v21 : TRef sig ⟨S32, .i32⟩) k
      = (Host.argReduce (reducer_argmax_f32_i32 (F := Ideal)) (tv V (.of main_v20 : TRef sig AF)) (iotaInDim S32x800000 32 1) (constant S_ .f32 0xFF800000#32)
          (constantI S_ 32 0#32) reducesTo_S32x800000_S32_d1 h_S_ k).2 := fun k => by
    rw [e21, ← tv_nullary _ a0, ← tv_nullary _ a1, ← tv_nullary _ a2]
  refine Eq.trans ?_ ((e' _).trans e)
  unfold shapeCast
  refine congrArg _ (S32.rowMajor.injective (Fin.ext ?_))
  rw [Shape.rowMajor_reshapeEquiv, Shape.rowMajor_reshapeEquiv]
  exact (Shape.rowMajor_val_one (d := ![32]) (fun | 0 => ⟨(S8x4.rowMajor j).val, hr⟩)).symm

end Numbers

end Cert.Proof.Sampler.Host
-- ==== Proof.KernelFinal.lean ====
/-
  The sampler against its reference at exact arithmetic: both leave, for each row, the first column of the greatest
  score, so they leave the same words.
-/
module

public import proofs.«01_k».proof.Proof.KernelOk
public import proofs.«01_k».proof.Proof.ReferenceValue

@[expose] public section

noncomputable section

namespace Cert.Proof.Sampler

open Cert.KernelIdeal Cert.KernelIdeal.Gen

open Idealize.ShloMosaic
open Idealize.ShloMosaic.TcCoe Idealize.ShloMosaic.Tactic
open Idealize.ShloMosaic.StableHlo (after)

section Final

variable (m : (ℓ : Loc nD τ sig) → Buf (Elt Ideal) ℓ) (c : Dev nD)

/-- The weights as the launch finds them. -/
abbrev wts : S8x32x100000.Idx → EReal := m ((c : Thread nD τ).loc main_arg1)

theorem operand : (We m c main_case0b0_v10 : S32x800000.Idx → EReal) = shapeCast S32x800000 (wts m c) shapeCasts_S8x32x100000_S32x800000 := by
  have e : We m c main_case0b0_v10 = shapeCast S32x800000 (Wd m c main_arg1 : S8x32x100000.Idx → EReal) shapeCasts_S8x32x100000_S32x800000 := by
    unfold We
    after_results
    rfl
  rw [e, Wd_arg m c main_arg1 (by decide)]

theorem out_cast (V : Valuation τ sig (Elt Ideal)) : after hostOps1_1 V main_v9 = shapeCast S8x4 (V main_v8 : S32.Idx → BitVec 32) shapeCasts_S32_S8x4 := by
  after_results
  rfl

theorem arm_cast (V : Valuation τ sig (Elt Ideal)) : after opsOut V main_v8 = shapeCast S32 (V main_case0b0_v11_1 : S32x1.Idx → BitVec 32) shapeCasts_S32x1_S32 := by
  after_results
  rfl

theorem arm_val : Warm m 0 c main_v8 = shapeCast S32 (Wf m c main_case0b0_v11_1 : S32x1.Idx → BitVec 32) shapeCasts_S32x1_S32 :=
  arm_cast (Wf m c)

theorem pass_val : Wf m c main_case0b0_v11_1 = (best (atTc (We m)) c 50).2 := (Wf_arg m c).trans (arg1_eq (atTc (We m)) c)

/-- The kernel's result is two reshapes of the full pass's columns. -/
theorem result_cast (b : S32x1.Idx → BitVec 32) (hb : (best (atTc (We m)) c 50).2 = b) : (Wz m c main_v9 : S8x4.Idx → BitVec 32)
    = shapeCast S8x4 (shapeCast S32 b shapeCasts_S32x1_S32) shapeCasts_S32_S8x4 := by
  refine (out_cast (Wg m c)).trans (congrArg (fun x : S32.Idx → BitVec 32 => shapeCast S8x4 x shapeCasts_S32_S8x4) ?_)
  rw [Wg_eq]
  exact (arm_val m c).trans (congrArg (fun x : S32x1.Idx → BitVec 32 => shapeCast S32 x shapeCasts_S32x1_S32) ((pass_val m c).trans hb))

/-- A row of the kernel's result is the first column of the row's greatest score. -/
theorem kernel_val (j : S8x4.Idx) : ∃ n, IsFirst 800000 (rowScore (wts m c) (S8x4.rowMajor j).val) n
    ∧ (Wz m c main_v9 : S8x4.Idx → BitVec 32) j = BitVec.ofNat 32 n := by
  have hr : (S8x4.rowMajor j).val < 32 := (S8x4.rowMajor j).isLt
  obtain ⟨r, hv⟩ : ∃ r : Fin 32, r.val = (S8x4.rowMajor j).val := ⟨⟨_, hr⟩, rfl⟩
  obtain ⟨n, hn, -, e⟩ := best_val (atTc (We m)) c r (rowScore (wts m c) r.val) (fun t k => by
    rw [show xb (atTc (We m)) c t (el r k) = _ from xb_apply (atTc (We m)) c t r k]
    show score _ ((We m c main_case0b0_v10 : S32x800000.Idx → EReal) _) = score _ _
    rw [operand, shapeCast_flat]
    refine congrArg (fun x => score _ (flat (wts m c) x)) ?_
    exact (Shape.rowMajor_val_two (d := ![32, 800000]) _).trans (by
      show r.val * 800000 + (16000 * t.val + k.val) = 800000 * r.val + (16000 * t.val + k.val)
      rw [Nat.mul_comm])) 49 (by omega)
  refine ⟨n, hv ▸ hn, ?_⟩
  rw [result_cast m c _ rfl, shapeCast_apply _ shapeCasts_S32_S8x4 j (r0 r) ((Shape.rowMajor_val_one (d := ![32]) (r0 r)).trans hv),
    shapeCast_apply _ shapeCasts_S32x1_S32 (r0 r) (r1 r) (by
      rw [show (S32.rowMajor (r0 r)).val = r.val from Shape.rowMajor_val_one (d := ![32]) (r0 r),
        show (S32x1.rowMajor (r1 r)).val = r.val * 1 + 0 from Shape.rowMajor_val_two (d := ![32, 1]) (r1 r)]
      omega)]
  exact e

end Final

/-- The kernel and its reference leave the same columns, whatever the weights. -/
theorem algebraic : Cert.algebraic_KernelIdeal_ReferenceIdeal := fun m g m' g' _ hm => by
  refine ⟨fun c => Wz m c main_v9, ?_, ?_⟩
  · exact (θ_run defs _ _).mono (fun _ h c => ⟨h.1 c _ (mem_uc main_v9 (by decide)),
      (h.1 c _ (mem_uc main_arg0 (by decide))).trans (Wz_arg m c main_arg0 (by decide)),
      (h.1 c _ (mem_uc main_arg1 (by decide))).trans (Wz_arg m c main_arg1 (by decide))⟩) (run_main m g)
  · refine (θ_run _ _ _).mono (fun r h c => ⟨?_, (h c _).trans (Host.Vz_arg m' c _ (by decide)), (h c _).trans (Host.Vz_arg m' c _ (by decide))⟩) (Host.run m' g')
    refine (h c Cert.ReferenceIdeal.main_v23).trans ?_
    refine funext fun j => ?_
    obtain ⟨n, hn, en⟩ := kernel_val m c j
    obtain ⟨n', hn', en'⟩ := Host.result_val (Host.fixed m' c) j
    have ha : Host.tv (Host.Vz m' c) (.of Cert.ReferenceIdeal.main_arg1 : StableHlo.TRef Cert.ReferenceIdeal.sig ⟨Cert.ReferenceIdeal.S8x32x100000, .f32⟩) = wts m c :=
      (Host.Vz_arg m' c Cert.ReferenceIdeal.main_arg1 (by decide)).trans (hm c).2
    rw [ha] at hn'
    obtain rfl := hn.unique hn'
    exact en'.trans en.symm

end Cert.Proof.Sampler

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.Pre_rows_in_range
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.GatherValue
public import proofs.«01_k».proof.Proof.KernelFinal
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.GatherReferenceIdeal.Gen.facts,
  Cert.Kernel.Gen.facts, Cert.KernelIdeal.Gen.facts, Cert.ReferenceIdeal.Gen.facts, Cert.Pre_rows_in_range.Gen.facts,
  Gather.frame_gather, Gather.frame_gatherIdeal, Gather.frame_reference,
  Sampler.frame_kernel, Sampler.frame_kernelIdeal, Sampler.Host.frame_referenceIdeal,
  trivial, Gather.algebraic, trivial, Sampler.algebraic⟩

end Cert.Proof

end
